-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "c" .f32 0x3E0293EE#32 (((Real.sqrt 128)⁻¹ * (Real.log 2)⁻¹ : ℝ) : EReal)

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_sane : Cert.Pre_sane.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ preserves_Kernel_KernelIdeal
    ∧ algebraic_KernelIdeal_ReferenceIdeal_pre_sane (hKernelIdeal := hKernelIdeal) (hReferenceIdeal := hReferenceIdeal) (hPre_sane := hPre_sane)
-- ==== Pre_sane.lean ====
abbrev S144x6x40x128 : Shape := ⟨4, ![144, 6, 40, 128]⟩
abbrev S144x6x8x128 : Shape := ⟨4, ![144, 6, 8, 128]⟩
abbrev S4096x8x128 : Shape := ⟨3, ![4096, 8, 128]⟩
abbrev S4096x8 : Shape := ⟨2, ![4096, 8]⟩
abbrev S8x8x4352 : Shape := ⟨3, ![8, 8, 4352]⟩
abbrev S8x9x30x16x128 : Shape := ⟨5, ![8, 9, 30, 16, 128]⟩
abbrev S144x2x128 : Shape := ⟨3, ![144, 2, 128]⟩
abbrev S8x1x4320 : Shape := ⟨3, ![8, 1, 4320]⟩
abbrev S8x4320 : Shape := ⟨2, ![8, 4320]⟩
abbrev S144x8x32 : Shape := ⟨3, ![144, 8, 32]⟩
abbrev S144x8x30 : Shape := ⟨3, ![144, 8, 30]⟩
abbrev S_ : Shape := ⟨0, ![]⟩

class Facts : Prop where
  slices_S8x8x4352_S8x1x4320_0_0_0 : S8x8x4352.Slices ![0, 0, 0] S8x1x4320
  shapeCasts_S8x1x4320_S8x4320 : S8x1x4320.ShapeCasts S8x4320
  shapeCasts_S144x2x128_S144x8x32 : S144x2x128.ShapeCasts S144x8x32
  slices_S144x8x32_S144x8x30_0_0_0 : S144x8x32.Slices ![0, 0, 0] S144x8x30
  bcast_S_S4096x8 : S_.BroadcastsInDim S4096x8 (![] : Fin 0 → Fin S4096x8.rank)
  reducesTo_S4096x8_S_d0_1 : S4096x8.ReducesTo [0, 1] S_
  h_S_ : 0 < S_.numel
  bcast_S_S8x4320 : S_.BroadcastsInDim S8x4320 (![] : Fin 0 → Fin S8x4320.rank)
  reducesTo_S8x4320_S_d0_1 : S8x4320.ReducesTo [0, 1] S_
  bcast_S_S144x8x30 : S_.BroadcastsInDim S144x8x30 (![] : Fin 0 → Fin S144x8x30.rank)
  reducesTo_S144x8x30_S_d0_1_2 : S144x8x30.ReducesTo [0, 1, 2] S_

variable [Facts]

def fn_part1 {F : FTy → Type} [FloatOps F] (main_v3 : FVec F S144x8x30 .f32) (main_v16 : IVec S_ 1) (main_cst_4 : FVec F S_ .f32) : IVec S_ 1 :=
  let main_v17 : FVec F S144x8x30 .f32 := broadcastInDim S144x8x30 ![] bcast_S_S144x8x30 main_cst_4
  let main_v18 : IVec S144x8x30 1 := cmpf .ogt main_v3 main_v17
  let main_c_5 : IVec S_ 1 := constantI S_ 1 1#1
  let main_v19 : IVec S_ 1 := (fun x v => Host.reduce IntOp.andi x v reducesTo_S144x8x30_S_d0_1_2 h_S_) main_v18 main_c_5
  let main_v20 : IVec S_ 1 := andi main_v16 main_v19
  main_v20

def fn {F : FTy → Type} [FloatOps F] (main_arg0 : FVec F S144x6x40x128 .bf16) (main_arg1 : FVec F S144x6x8x128 .bf16) (main_arg2 : FVec F S144x6x8x128 .bf16) (main_arg3 : FVec F S4096x8x128 .fp8e4m3) (main_arg4 : FVec F S4096x8x128 .fp8e4m3) (main_arg5 : FVec F S4096x8 .f32) (main_arg6 : FVec F S4096x8 .f32) (main_arg7 : FVec F S8x8x4352 .f32) (main_arg8 : FVec F S8x9x30x16x128 .f32) (main_arg9 : FVec F S144x2x128 .f32) : IVec S_ 1 :=
  let main_v0 : FVec F S8x1x4320 .f32 := (extractStridedSlice S8x1x4320 ![0, 0, 0] · slices_S8x8x4352_S8x1x4320_0_0_0) main_arg7
  let main_v1 : FVec F S8x4320 .f32 := shapeCast S8x4320 main_v0 shapeCasts_S8x1x4320_S8x4320
  let main_v2 : FVec F S144x8x32 .f32 := shapeCast S144x8x32 main_arg9 shapeCasts_S144x2x128_S144x8x32
  let main_v3 : FVec F S144x8x30 .f32 := (extractStridedSlice S144x8x30 ![0, 0, 0] · slices_S144x8x32_S144x8x30_0_0_0) main_v2
  let main_cst : FVec F S_ .f32 := constant S_ .f32 0x00000000#32
  let main_v4 : FVec F S4096x8 .f32 := broadcastInDim S4096x8 ![] bcast_S_S4096x8 main_cst
  let main_v5 : IVec S4096x8 1 := cmpf .oge main_arg5 main_v4
  let main_cst_0 : FVec F S_ .f32 := constant S_ .f32 0x7F800000#32
  let main_v6 : FVec F S4096x8 .f32 := broadcastInDim S4096x8 ![] bcast_S_S4096x8 main_cst_0
  let main_v7 : IVec S4096x8 1 := cmpf .olt main_arg5 main_v6
  let main_v8 : IVec S4096x8 1 := andi main_v5 main_v7
  let main_c : IVec S_ 1 := constantI S_ 1 1#1
  let main_v9 : IVec S_ 1 := (fun x v => Host.reduce IntOp.andi x v reducesTo_S4096x8_S_d0_1 h_S_) main_v8 main_c
  let main_cst_1 : FVec F S_ .f32 := constant S_ .f32 0xFF800000#32
  let main_v10 : FVec F S8x4320 .f32 := broadcastInDim S8x4320 ![] bcast_S_S8x4320 main_cst_1
  let main_v11 : IVec S8x4320 1 := cmpf .ogt main_v1 main_v10
  let main_cst_2 : FVec F S_ .f32 := constant S_ .f32 0x7F800000#32
  let main_v12 : FVec F S8x4320 .f32 := broadcastInDim S8x4320 ![] bcast_S_S8x4320 main_cst_2
  let main_v13 : IVec S8x4320 1 := cmpf .olt main_v1 main_v12
  let main_v14 : IVec S8x4320 1 := andi main_v11 main_v13
  let main_c_3 : IVec S_ 1 := constantI S_ 1 1#1
  let main_v15 : IVec S_ 1 := (fun x v => Host.reduce IntOp.andi x v reducesTo_S8x4320_S_d0_1 h_S_) main_v14 main_c_3
  let main_v16 : IVec S_ 1 := andi main_v9 main_v15
  let main_cst_4 : FVec F S_ .f32 := constant S_ .f32 0x00000000#32
  fn_part1 (F := F) main_v3 main_v16 main_cst_4
-- ==== Kernel.lean ====
abbrev S144x6x40x128 : Shape := ⟨4, ![144, 6, 40, 128]⟩
abbrev S144x6x8x128 : Shape := ⟨4, ![144, 6, 8, 128]⟩
abbrev S4096x8x128 : Shape := ⟨3, ![4096, 8, 128]⟩
abbrev S4096x8 : Shape := ⟨2, ![4096, 8]⟩
abbrev S8x8x4352 : Shape := ⟨3, ![8, 8, 4352]⟩
abbrev S8x9x30x16x128 : Shape := ⟨5, ![8, 9, 30, 16, 128]⟩
abbrev S144x2x128 : Shape := ⟨3, ![144, 2, 128]⟩
abbrev S9x16x6x8x5x128 : Shape := ⟨6, ![9, 16, 6, 8, 5, 128]⟩
abbrev S8x128x9x6x5x16 : Shape := ⟨6, ![8, 128, 9, 6, 5, 16]⟩
abbrev S8x128x4320 : Shape := ⟨3, ![8, 128, 4320]⟩
abbrev S_ : Shape := ⟨0, ![]⟩
abbrev S8x128x4352 : Shape := ⟨3, ![8, 128, 4352]⟩
abbrev S9x96x8x128 : Shape := ⟨4, ![9, 96, 8, 128]⟩
abbrev S8x9x96x128 : Shape := ⟨4, ![8, 9, 96, 128]⟩
abbrev S8x10x128x128 : Shape := ⟨4, ![8, 10, 128, 128]⟩
abbrev S8x1280x128 : Shape := ⟨3, ![8, 1280, 128]⟩
abbrev S8x128x9x96 : Shape := ⟨4, ![8, 128, 9, 96]⟩
abbrev S8x128x10x128 : Shape := ⟨4, ![8, 128, 10, 128]⟩
abbrev S8x128x1280 : Shape := ⟨3, ![8, 128, 1280]⟩
abbrev S8x4096x128 : Shape := ⟨3, ![8, 4096, 128]⟩
abbrev S8x128x4096 : Shape := ⟨3, ![8, 128, 4096]⟩
abbrev S512x8x128 : Shape := ⟨3, ![512, 8, 128]⟩
abbrev S512x8 : Shape := ⟨2, ![512, 8]⟩
abbrev S8x512x128 : Shape := ⟨3, ![8, 512, 128]⟩
abbrev S8x128x512 : Shape := ⟨3, ![8, 128, 512]⟩
abbrev S512x1x128 : Shape := ⟨3, ![512, 1, 128]⟩
abbrev S512x128 : Shape := ⟨2, ![512, 128]⟩
abbrev S512x1 : Shape := ⟨2, ![512, 1]⟩
abbrev S1x512x128 : Shape := ⟨3, ![1, 512, 128]⟩
abbrev S128x512 : Shape := ⟨2, ![128, 512]⟩
abbrev S1x128x512 : Shape := ⟨3, ![1, 128, 512]⟩
abbrev S8x4320x128 : Shape := ⟨3, ![8, 4320, 128]⟩
abbrev S8x4352x128 : Shape := ⟨3, ![8, 4352, 128]⟩
abbrev S9x16x8x32 : Shape := ⟨4, ![9, 16, 8, 32]⟩
abbrev S9x16x8x30 : Shape := ⟨4, ![9, 16, 8, 30]⟩
abbrev S8x9x30x16 : Shape := ⟨4, ![8, 9, 30, 16]⟩
abbrev S8x1x4320 : Shape := ⟨3, ![8, 1, 4320]⟩
abbrev S8x1x4352 : Shape := ⟨3, ![8, 1, 4352]⟩
abbrev S1x128x256 : Shape := ⟨3, ![1, 128, 256]⟩
abbrev S1x8x256 : Shape := ⟨3, ![1, 8, 256]⟩
abbrev S1x4096x128 : Shape := ⟨3, ![1, 4096, 128]⟩
abbrev S1x128x4096 : Shape := ⟨3, ![1, 128, 4096]⟩
abbrev S1x1280x128 : Shape := ⟨3, ![1, 1280, 128]⟩
abbrev S1x128x1280 : Shape := ⟨3, ![1, 128, 1280]⟩
abbrev S1x256x128 : Shape := ⟨3, ![1, 256, 128]⟩
abbrev S1x1x256 : Shape := ⟨3, ![1, 1, 256]⟩
abbrev S2x1024x256 : Shape := ⟨3, ![2, 1024, 256]⟩
abbrev S1x256 : Shape := ⟨2, ![1, 256]⟩
abbrev S128x256 : Shape := ⟨2, ![128, 256]⟩
abbrev S256x256 : Shape := ⟨2, ![256, 256]⟩
abbrev S256x128 : Shape := ⟨2, ![256, 128]⟩
abbrev S256x1 : Shape := ⟨2, ![256, 1]⟩
abbrev S32x8x256 : Shape := ⟨3, ![32, 8, 256]⟩
abbrev S8x256 : Shape := ⟨2, ![8, 256]⟩
abbrev S1x256x256 : Shape := ⟨3, ![1, 256, 256]⟩
abbrev S1x128x1024 : Shape := ⟨3, ![1, 128, 1024]⟩
abbrev S128x1024 : Shape := ⟨2, ![128, 1024]⟩
abbrev S1x1024x256 : Shape := ⟨3, ![1, 1024, 256]⟩
abbrev S1024x256 : Shape := ⟨2, ![1024, 256]⟩
abbrev S256 : Shape := ⟨1, ![256]⟩
abbrev S8x9x6x5x16x128 : Shape := ⟨6, ![8, 9, 6, 5, 16, 128]⟩
abbrev S144x6x5120 : Shape := ⟨3, ![144, 6, 5120]⟩

abbrev nBuf : Space → Nat
  | .hbm => 47
  | .vmem => 33
  | .smem => 0
  | _ => 0

abbrev bufTy : (tb : Table) → Fin (tcTables nBuf tb) → BufTy
  | .hbm, ⟨0, _⟩ => ⟨S144x6x40x128, .bf16⟩
  | .hbm, ⟨1, _⟩ => ⟨S144x6x8x128, .bf16⟩
  | .hbm, ⟨2, _⟩ => ⟨S144x6x8x128, .bf16⟩
  | .hbm, ⟨3, _⟩ => ⟨S4096x8x128, .fp8e4m3⟩
  | .hbm, ⟨4, _⟩ => ⟨S4096x8x128, .fp8e4m3⟩
  | .hbm, ⟨5, _⟩ => ⟨S4096x8, .f32⟩
  | .hbm, ⟨6, _⟩ => ⟨S4096x8, .f32⟩
  | .hbm, ⟨7, _⟩ => ⟨S8x8x4352, .f32⟩
  | .hbm, ⟨8, _⟩ => ⟨S8x9x30x16x128, .f32⟩
  | .hbm, ⟨9, _⟩ => ⟨S144x2x128, .f32⟩
  | .hbm, ⟨10, _⟩ => ⟨S9x16x6x8x5x128, .bf16⟩
  | .hbm, ⟨11, _⟩ => ⟨S8x128x9x6x5x16, .bf16⟩
  | .hbm, ⟨12, _⟩ => ⟨S8x128x4320, .bf16⟩
  | .hbm, ⟨13, _⟩ => ⟨S_, .i32⟩
  | .hbm, ⟨14, _⟩ => ⟨S_, .bf16⟩
  | .hbm, ⟨15, _⟩ => ⟨S8x128x4352, .bf16⟩
  | .hbm, ⟨16, _⟩ => ⟨S9x96x8x128, .bf16⟩
  | .hbm, ⟨17, _⟩ => ⟨S8x9x96x128, .bf16⟩
  | .hbm, ⟨18, _⟩ => ⟨S_, .i32⟩
  | .hbm, ⟨19, _⟩ => ⟨S_, .bf16⟩
  | .hbm, ⟨20, _⟩ => ⟨S8x10x128x128, .bf16⟩
  | .hbm, ⟨21, _⟩ => ⟨S8x1280x128, .bf16⟩
  | .hbm, ⟨22, _⟩ => ⟨S9x96x8x128, .bf16⟩
  | .hbm, ⟨23, _⟩ => ⟨S8x128x9x96, .bf16⟩
  | .hbm, ⟨24, _⟩ => ⟨S_, .i32⟩
  | .hbm, ⟨25, _⟩ => ⟨S_, .bf16⟩
  | .hbm, ⟨26, _⟩ => ⟨S8x128x10x128, .bf16⟩
  | .hbm, ⟨27, _⟩ => ⟨S8x128x1280, .bf16⟩
  | .hbm, ⟨28, _⟩ => ⟨S8x4096x128, .bf16⟩
  | .hbm, ⟨29, _⟩ => ⟨S8x128x4096, .bf16⟩
  | .hbm, ⟨30, _⟩ => ⟨S8x4320x128, .f32⟩
  | .hbm, ⟨31, _⟩ => ⟨S_, .i32⟩
  | .hbm, ⟨32, _⟩ => ⟨S_, .f32⟩
  | .hbm, ⟨33, _⟩ => ⟨S8x4352x128, .f32⟩
  | .hbm, ⟨34, _⟩ => ⟨S9x16x8x32, .f32⟩
  | .hbm, ⟨35, _⟩ => ⟨S9x16x8x30, .f32⟩
  | .hbm, ⟨36, _⟩ => ⟨S8x9x30x16, .f32⟩
  | .hbm, ⟨37, _⟩ => ⟨S8x1x4320, .f32⟩
  | .hbm, ⟨38, _⟩ => ⟨S_, .i32⟩
  | .hbm, ⟨39, _⟩ => ⟨S_, .f32⟩
  | .hbm, ⟨40, _⟩ => ⟨S8x1x4352, .f32⟩
  | .hbm, ⟨41, _⟩ => ⟨S8x4352x128, .bf16⟩
  | .hbm, ⟨42, _⟩ => ⟨S8x8x4352, .f32⟩
  | .hbm, ⟨43, _⟩ => ⟨S8x4320x128, .bf16⟩
  | .hbm, ⟨44, _⟩ => ⟨S8x9x6x5x16x128, .bf16⟩
  | .hbm, ⟨45, _⟩ => ⟨S9x16x6x8x5x128, .bf16⟩
  | .hbm, ⟨46, _⟩ => ⟨S144x6x5120, .bf16⟩
  | .local _ .vmem, ⟨0, _⟩ => ⟨S512x8x128, .fp8e4m3⟩
  | .local _ .vmem, ⟨1, _⟩ => ⟨S512x8x128, .fp8e4m3⟩
  | .local _ .vmem, ⟨2, _⟩ => ⟨S512x8x128, .fp8e4m3⟩
  | .local _ .vmem, ⟨3, _⟩ => ⟨S512x8x128, .fp8e4m3⟩
  | .local _ .vmem, ⟨4, _⟩ => ⟨S512x8, .f32⟩
  | .local _ .vmem, ⟨5, _⟩ => ⟨S512x8, .f32⟩
  | .local _ .vmem, ⟨6, _⟩ => ⟨S512x8, .f32⟩
  | .local _ .vmem, ⟨7, _⟩ => ⟨S512x8, .f32⟩
  | .local _ .vmem, ⟨8, _⟩ => ⟨S8x512x128, .bf16⟩
  | .local _ .vmem, ⟨9, _⟩ => ⟨S8x512x128, .bf16⟩
  | .local _ .vmem, ⟨10, _⟩ => ⟨S8x128x512, .bf16⟩
  | .local _ .vmem, ⟨11, _⟩ => ⟨S8x128x512, .bf16⟩
  | .local _ .vmem, ⟨12, _⟩ => ⟨S1x128x256, .bf16⟩
  | .local _ .vmem, ⟨13, _⟩ => ⟨S1x128x256, .bf16⟩
  | .local _ .vmem, ⟨14, _⟩ => ⟨S1x8x256, .f32⟩
  | .local _ .vmem, ⟨15, _⟩ => ⟨S1x8x256, .f32⟩
  | .local _ .vmem, ⟨16, _⟩ => ⟨S1x4096x128, .bf16⟩
  | .local _ .vmem, ⟨17, _⟩ => ⟨S1x4096x128, .bf16⟩
  | .local _ .vmem, ⟨18, _⟩ => ⟨S1x128x4096, .bf16⟩
  | .local _ .vmem, ⟨19, _⟩ => ⟨S1x128x4096, .bf16⟩
  | .local _ .vmem, ⟨20, _⟩ => ⟨S1x1280x128, .bf16⟩
  | .local _ .vmem, ⟨21, _⟩ => ⟨S1x1280x128, .bf16⟩
  | .local _ .vmem, ⟨22, _⟩ => ⟨S1x128x1280, .bf16⟩
  | .local _ .vmem, ⟨23, _⟩ => ⟨S1x128x1280, .bf16⟩
  | .local _ .vmem, ⟨24, _⟩ => ⟨S1x256x128, .f32⟩
  | .local _ .vmem, ⟨25, _⟩ => ⟨S1x256x128, .f32⟩
  | .local _ .vmem, ⟨26, _⟩ => ⟨S1x1x256, .f32⟩
  | .local _ .vmem, ⟨27, _⟩ => ⟨S1x1x256, .f32⟩
  | .local _ .vmem, ⟨28, _⟩ => ⟨S1x256x128, .bf16⟩
  | .local _ .vmem, ⟨29, _⟩ => ⟨S1x256x128, .bf16⟩
  | .local _ .vmem, ⟨30, _⟩ => ⟨S1x8x256, .f32⟩
  | .local _ .vmem, ⟨31, _⟩ => ⟨S1x8x256, .f32⟩
  | .local _ .vmem, ⟨32, _⟩ => ⟨S2x1024x256, .bf16⟩
  | _, _ => ⟨S144x6x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_call2_v0 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v13 : Ref sig .tc := ⟨.hbm, 30, rfl⟩
abbrev main_c_2 : Ref sig .tc := ⟨.hbm, 31, rfl⟩
abbrev main_call3_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_call4_v0 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x8x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 17], ![false, false]⟩

def k1_mult1 (i : grid1.Coords) : BitVec 32 :=
  let c256_i32 : BitVec 32 := 256#32
  let arg1 : BitVec 32 := BitVec.ofNat 32 (i 1).val
  let v0 : BitVec 32 := Scalar.muli c256_i32 arg1
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c480_i32 : BitVec 32 := 480#32
  let c0_i32_1 : BitVec 32 := 0#32
  let v7 : BitVec 1 := Scalar.cmpi .sgt c480_i32 c0_i32_1
  let v8 : BitVec 32 := Scalar.extui v7
  let c0_i32_2 : BitVec 32 := 0#32
  let v9 : BitVec 1 := Scalar.cmpi .slt c480_i32 c0_i32_2
  let v10 : BitVec 32 := Scalar.extui v9
  let v11 : BitVec 32 := Scalar.subi v8 v10
  let v12 : BitVec 1 := Scalar.cmpi .ne v6 v11
  let v13 : BitVec 32 := Scalar.remsi v0 c480_i32
  let c0_i32_3 : BitVec 32 := 0#32
  let v14 : BitVec 1 := Scalar.cmpi .ne v13 c0_i32_3
  let v15 : BitVec 1 := Scalar.andi v12 v14
  let v1 : BitVec 32 := Scalar.divsi v0 c480_i32
  let c1_i32 : BitVec 32 := 1#32
  let v16 : BitVec 32 := Scalar.subi v1 c1_i32
  let v17 : BitVec 32 := Scalar.select v15 v16 v1
  let c128_i32 : BitVec 32 := 128#32
  let v58 : BitVec 32 := Scalar.muli v17 c128_i32
  v58
def k1_off1 (i : grid1.Coords) : Fin 3 → Nat :=
  let c0_29 : Index := 0#32
  let c256_i32 : BitVec 32 := 256#32
  let arg1 : BitVec 32 := BitVec.ofNat 32 (i 1).val
  let v0 : BitVec 32 := Scalar.muli c256_i32 arg1
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c480_i32 : BitVec 32 := 480#32
  let c0_i32_1 : BitVec 32 := 0#32
  let v7 : BitVec 1 := Scalar.cmpi .sgt c480_i32 c0_i32_1
  let v8 : BitVec 32 := Scalar.extui v7
  let c0_i32_2 : BitVec 32 := 0#32
  let v9 : BitVec 1 := Scalar.cmpi .slt c480_i32 c0_i32_2
  let v10 : BitVec 32 := Scalar.extui v9
  let v11 : BitVec 32 := Scalar.subi v8 v10
  let v12 : BitVec 1 := Scalar.cmpi .ne v6 v11
  let v13 : BitVec 32 := Scalar.remsi v0 c480_i32
  let c0_i32_3 : BitVec 32 := 0#32
  let v14 : BitVec 1 := Scalar.cmpi .ne v13 c0_i32_3
  let v15 : BitVec 1 := Scalar.andi v12 v14
  let v1 : BitVec 32 := Scalar.divsi v0 c480_i32
  let c1_i32 : BitVec 32 := 1#32
  let v16 : BitVec 32 := Scalar.subi v1 c1_i32
  let v17 : BitVec 32 := Scalar.select v15 v16 v1
  let c128_i32 : BitVec 32 := 128#32
  let v58 : BitVec 32 := Scalar.muli v17 c128_i32
  let v59 : BitVec 32 := v58
  let v129 : Index := Scalar.indexCast v59
  let c0_30 : Index := 0#32
  ![0, v129.toNat, 0]
def k1_off2 (i : grid1.Coords) : Fin 3 → Nat :=
  let c0_35 : Index := 0#32
  let c0_36 : Index := 0#32
  let c256_i32 : BitVec 32 := 256#32
  let arg1 : BitVec 32 := BitVec.ofNat 32 (i 1).val
  let v0 : BitVec 32 := Scalar.muli c256_i32 arg1
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c480_i32 : BitVec 32 := 480#32
  let c0_i32_1 : BitVec 32 := 0#32
  let v7 : BitVec 1 := Scalar.cmpi .sgt c480_i32 c0_i32_1
  let v8 : BitVec 32 := Scalar.extui v7
  let c0_i32_2 : BitVec 32 := 0#32
  let v9 : BitVec 1 := Scalar.cmpi .slt c480_i32 c0_i32_2
  let v10 : BitVec 32 := Scalar.extui v9
  let v11 : BitVec 32 := Scalar.subi v8 v10
  let v12 : BitVec 1 := Scalar.cmpi .ne v6 v11
  let v13 : BitVec 32 := Scalar.remsi v0 c480_i32
  let c0_i32_3 : BitVec 32 := 0#32
  let v14 : BitVec 1 := Scalar.cmpi .ne v13 c0_i32_3
  let v15 : BitVec 1 := Scalar.andi v12 v14
  let v1 : BitVec 32 := Scalar.divsi v0 c480_i32
  let c1_i32 : BitVec 32 := 1#32
  let v16 : BitVec 32 := Scalar.subi v1 c1_i32
  let v17 : BitVec 32 := Scalar.select v15 v16 v1
  let c128_i32 : BitVec 32 := 128#32
  let v58 : BitVec 32 := Scalar.muli v17 c128_i32
  let v59 : BitVec 32 := v58
  let v141 : Index := Scalar.indexCast v59
  ![0, 0, v141.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1280x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128x1280 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x8x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== KernelIdeal.lean ====
variable {F : FTy → Type} [FloatOps F] [Named F]
def κ : String → Option EReal := fun
  | "c" => some (((Real.sqrt 128)⁻¹ * (Real.log 2)⁻¹ : ℝ) : EReal)
  | _ => none
-- ==== ReferenceIdeal.lean ====
abbrev S144x6x40x128 : Shape := ⟨4, ![144, 6, 40, 128]⟩
abbrev S144x6x8x128 : Shape := ⟨4, ![144, 6, 8, 128]⟩
abbrev S4096x8x128 : Shape := ⟨3, ![4096, 8, 128]⟩
abbrev S4096x8 : Shape := ⟨2, ![4096, 8]⟩
abbrev S8x8x4352 : Shape := ⟨3, ![8, 8, 4352]⟩
abbrev S8x9x30x16x128 : Shape := ⟨5, ![8, 9, 30, 16, 128]⟩
abbrev S144x2x128 : Shape := ⟨3, ![144, 2, 128]⟩
abbrev S_ : Shape := ⟨0, ![]⟩
abbrev S144x6x8x5x128 : Shape := ⟨5, ![144, 6, 8, 5, 128]⟩
abbrev S8x1x4320 : Shape := ⟨3, ![8, 1, 4320]⟩
abbrev S8x4320 : Shape := ⟨2, ![8, 4320]⟩
abbrev S8x9x6x5x16 : Shape := ⟨5, ![8, 9, 6, 5, 16]⟩
abbrev S9x16x6x8x5 : Shape := ⟨5, ![9, 16, 6, 8, 5]⟩
abbrev S144x6x8x5x1 : Shape := ⟨5, ![144, 6, 8, 5, 1]⟩
abbrev S9x16x30x8x128 : Shape := ⟨5, ![9, 16, 30, 8, 128]⟩
abbrev S144x6x5x8x128 : Shape := ⟨5, ![144, 6, 5, 8, 128]⟩
abbrev S144x8x32 : Shape := ⟨3, ![144, 8, 32]⟩
abbrev S144x8x30 : Shape := ⟨3, ![144, 8, 30]⟩
abbrev S144x8x6x5 : Shape := ⟨4, ![144, 8, 6, 5]⟩
abbrev S144x6x8x5 : Shape := ⟨4, ![144, 6, 8, 5]⟩
abbrev S8x4096x144x6x5 : Shape := ⟨5, ![8, 4096, 144, 6, 5]⟩
abbrev S144x6x8x5x4096 : Shape := ⟨5, ![144, 6, 8, 5, 4096]⟩
abbrev S8x4096 : Shape := ⟨2, ![8, 4096]⟩
abbrev S8x1x4096 : Shape := ⟨3, ![8, 1, 4096]⟩
abbrev S1x1x8x1x4096 : Shape := ⟨5, ![1, 1, 8, 1, 4096]⟩
abbrev S144x8x6x6x5 : Shape := ⟨5, ![144, 8, 6, 6, 5]⟩
abbrev S144x6x8x5x6 : Shape := ⟨5, ![144, 6, 8, 5, 6]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S1x6x1x1x6 : Shape := ⟨5, ![1, 6, 1, 1, 6]⟩
abbrev S8x128x144x6x5 : Shape := ⟨5, ![8, 128, 144, 6, 5]⟩
abbrev S144x8x128x6x5 : Shape := ⟨5, ![144, 8, 128, 6, 5]⟩
abbrev S144x6x5120 : Shape := ⟨3, ![144, 6, 5120]⟩

abbrev nBuf : Space → Nat
  | .hbm => 93
  | .vmem => 4
  | .smem => 0
  | _ => 0

abbrev bufTy : (tb : Table) → Fin (tcTables nBuf tb) → BufTy
  | .hbm, ⟨0, _⟩ => ⟨S144x6x40x128, .bf16⟩
  | .hbm, ⟨1, _⟩ => ⟨S144x6x8x128, .bf16⟩
  | .hbm, ⟨2, _⟩ => ⟨S144x6x8x128, .bf16⟩
  | .hbm, ⟨3, _⟩ => ⟨S4096x8x128, .fp8e4m3⟩
  | .hbm, ⟨4, _⟩ => ⟨S4096x8x128, .fp8e4m3⟩
  | .hbm, ⟨5, _⟩ => ⟨S4096x8, .f32⟩
  | .hbm, ⟨6, _⟩ => ⟨S4096x8, .f32⟩
  | .hbm, ⟨7, _⟩ => ⟨S8x8x4352, .f32⟩
  | .hbm, ⟨8, _⟩ => ⟨S8x9x30x16x128, .f32⟩
  | .hbm, ⟨9, _⟩ => ⟨S144x2x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S144x6x8x5x128, .bf16⟩
  | .hbm, ⟨15, _⟩ => ⟨S8x1x4320, .f32⟩
  | .hbm, ⟨16, _⟩ => ⟨S8x4320, .f32⟩
  | .hbm, ⟨17, _⟩ => ⟨S8x9x6x5x16, .f32⟩
  | .hbm, ⟨18, _⟩ => ⟨S9x16x6x8x5, .f32⟩
  | .hbm, ⟨19, _⟩ => ⟨S144x6x8x5x1, .f32⟩
  | .hbm, ⟨20, _⟩ => ⟨S144x6x8x5x1, .f32⟩
  | .hbm, ⟨21, _⟩ => ⟨S144x6x8x5x1, .f32⟩
  | .hbm, ⟨22, _⟩ => ⟨S9x16x30x8x128, .f32⟩
  | .hbm, ⟨23, _⟩ => ⟨S144x6x5x8x128, .f32⟩
  | .hbm, ⟨24, _⟩ => ⟨S144x6x8x5x128, .f32⟩
  | .hbm, ⟨25, _⟩ => ⟨S144x8x32, .f32⟩
  | .hbm, ⟨26, _⟩ => ⟨S144x8x30, .f32⟩
  | .hbm, ⟨27, _⟩ => ⟨S144x8x6x5, .f32⟩
  | .hbm, ⟨28, _⟩ => ⟨S144x6x8x5, .f32⟩
  | .hbm, ⟨29, _⟩ => ⟨S144x6x8x5x1, .f32⟩
  | .hbm, ⟨30, _⟩ => ⟨S4096x8x128, .bf16⟩
  | .hbm, ⟨31, _⟩ => ⟨S4096x8x128, .bf16⟩
  | .hbm, ⟨32, _⟩ => ⟨S8x4096x144x6x5, .f32⟩
  | .hbm, ⟨33, _⟩ => ⟨S144x6x8x5x4096, .f32⟩
  | .hbm, ⟨34, _⟩ => ⟨S4096x8, .f32⟩
  | .hbm, ⟨35, _⟩ => ⟨S4096x8, .f32⟩
  | .hbm, ⟨36, _⟩ => ⟨S8x4096, .f32⟩
  | .hbm, ⟨37, _⟩ => ⟨S8x1x4096, .f32⟩
  | .hbm, ⟨38, _⟩ => ⟨S1x1x8x1x4096, .f32⟩
  | .hbm, ⟨39, _⟩ => ⟨S144x6x8x5x4096, .f32⟩
  | .hbm, ⟨40, _⟩ => ⟨S144x6x8x5x4096, .f32⟩
  | .hbm, ⟨41, _⟩ => ⟨S144x8x6x6x5, .f32⟩
  | .hbm, ⟨42, _⟩ => ⟨S144x6x8x5x6, .f32⟩
  | .hbm, ⟨43, _⟩ => ⟨S144x6x8x5x6, .f32⟩
  | .hbm, ⟨44, _⟩ => ⟨S144x6x8x5x6, .f32⟩
  | .hbm, ⟨45, _⟩ => ⟨S6, .i32⟩
  | .hbm, ⟨46, _⟩ => ⟨S6x1, .i32⟩
  | .hbm, ⟨47, _⟩ => ⟨S6, .i32⟩
  | .hbm, ⟨48, _⟩ => ⟨S1x6, .i32⟩
  | .hbm, ⟨49, _⟩ => ⟨S6x6, .i32⟩
  | .hbm, ⟨50, _⟩ => ⟨S6x6, .i32⟩
  | .hbm, ⟨51, _⟩ => ⟨S6x6, .i1⟩
  | .hbm, ⟨52, _⟩ => ⟨S1x6x1x1x6, .i1⟩
  | .hbm, ⟨53, _⟩ => ⟨S_, .f32⟩
  | .hbm, ⟨54, _⟩ => ⟨S_, .f32⟩
  | .hbm, ⟨55, _⟩ => ⟨S144x6x8x5x6, .i1⟩
  | .hbm, ⟨56, _⟩ => ⟨S144x6x8x5x6, .f32⟩
  | .hbm, ⟨57, _⟩ => ⟨S144x6x8x5x6, .f32⟩
  | .hbm, ⟨58, _⟩ => ⟨S144x6x8x5x4096, .f32⟩
  | .hbm, ⟨59, _⟩ => ⟨S144x6x8x5x4096, .f32⟩
  | .hbm, ⟨60, _⟩ => ⟨S144x6x8x5x4096, .f32⟩
  | .hbm, ⟨61, _⟩ => ⟨S144x6x8x5x6, .f32⟩
  | .hbm, ⟨62, _⟩ => ⟨S144x6x8x5x6, .f32⟩
  | .hbm, ⟨63, _⟩ => ⟨S144x6x8x5x6, .f32⟩
  | .hbm, ⟨64, _⟩ => ⟨S_, .f32⟩
  | .hbm, ⟨65, _⟩ => ⟨S144x6x8x5, .f32⟩
  | .hbm, ⟨66, _⟩ => ⟨S144x6x8x5x1, .f32⟩
  | .hbm, ⟨67, _⟩ => ⟨S144x6x8x5x1, .f32⟩
  | .hbm, ⟨68, _⟩ => ⟨S_, .f32⟩
  | .hbm, ⟨69, _⟩ => ⟨S144x6x8x5, .f32⟩
  | .hbm, ⟨70, _⟩ => ⟨S144x6x8x5x1, .f32⟩
  | .hbm, ⟨71, _⟩ => ⟨S144x6x8x5x1, .f32⟩
  | .hbm, ⟨72, _⟩ => ⟨S144x6x8x5x4096, .f32⟩
  | .hbm, ⟨73, _⟩ => ⟨S144x6x8x5x4096, .f32⟩
  | .hbm, ⟨74, _⟩ => ⟨S144x6x8x5x6, .f32⟩
  | .hbm, ⟨75, _⟩ => ⟨S144x6x8x5x6, .f32⟩
  | .hbm, ⟨76, _⟩ => ⟨S8x4096, .f32⟩
  | .hbm, ⟨77, _⟩ => ⟨S8x1x4096, .f32⟩
  | .hbm, ⟨78, _⟩ => ⟨S1x1x8x1x4096, .f32⟩
  | .hbm, ⟨79, _⟩ => ⟨S144x6x8x5x4096, .f32⟩
  | .hbm, ⟨80, _⟩ => ⟨S144x6x8x5x4096, .f32⟩
  | .hbm, ⟨81, _⟩ => ⟨S144x6x8x5x4096, .bf16⟩
  | .hbm, ⟨82, _⟩ => ⟨S8x128x144x6x5, .f32⟩
  | .hbm, ⟨83, _⟩ => ⟨S144x6x8x5x128, .f32⟩
  | .hbm, ⟨84, _⟩ => ⟨S144x6x8x5x6, .bf16⟩
  | .hbm, ⟨85, _⟩ => ⟨S144x8x128x6x5, .f32⟩
  | .hbm, ⟨86, _⟩ => ⟨S144x6x8x5x128, .f32⟩
  | .hbm, ⟨87, _⟩ => ⟨S144x6x8x5x128, .f32⟩
  | .hbm, ⟨88, _⟩ => ⟨S144x6x8x5x128, .f32⟩
  | .hbm, ⟨89, _⟩ => ⟨S144x6x8x5x128, .f32⟩
  | .hbm, ⟨90, _⟩ => ⟨S144x6x8x5x128, .f32⟩
  | .hbm, ⟨91, _⟩ => ⟨S144x6x5120, .f32⟩
  | .hbm, ⟨92, _⟩ => ⟨S144x6x5120, .bf16⟩
  | .local _ .vmem, ⟨0, _⟩ => ⟨S4096x8x128, .fp8e4m3⟩
  | .local _ .vmem, ⟨1, _⟩ => ⟨S4096x8x128, .fp8e4m3⟩
  | .local _ .vmem, ⟨2, _⟩ => ⟨S4096x8x128, .bf16⟩
  | .local _ .vmem, ⟨3, _⟩ => ⟨S4096x8x128, .bf16⟩
  | _, _ => ⟨S144x6x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x8x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KBody.lean ====
module
public import proofs.«01_k».proof.Proof.Gen.KernelIdeal.Skeleton
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

/-- The augmented query block: the queries in rows 0..127, the three limbs of the shift in rows 128..130. -/
def qaOf (q : FVec Ideal S1x128x256 .bf16) (mb : FVec Ideal S1x1x256 .f32) : FVec Ideal S256x256 .bf16 :=
  k1_pay9 (k1_pay7 mb) (iota Kind.tc S128x256 32 [0] iota_S128x256_d0_w32) (k1_pay8 mb) 2#32 q

/-- What the limb rows add to a score: the ones of lanes 0, 1, 2 times the three limbs. -/
def limbs (μ : EReal) : EReal := ∑ x : Fin 128,
            Scalar.select (IntOp.cmpi CmpIPredicate.slt (BitVec.ofNat 32 ↑x) 3#32)
              (Scalar.select (IntOp.cmpi CmpIPredicate.eq (BitVec.ofNat 32 ↑x) 2#32)
                (0 - μ - (0 - μ) - (0 - μ - (0 - μ)))
                (Scalar.select (IntOp.cmpi CmpIPredicate.eq (BitVec.ofNat 32 ↑x) 1#32)
                  (0 - μ - (0 - μ))
                  (Scalar.select (IntOp.cmpi CmpIPredicate.eq (BitVec.ofNat 32 ↑x) 0#32) (0 - μ) 0)))
              0

/-- Of a finite shift the limb rows give its negative: the first limb is it, the two others are zero. -/
theorem limbs_coe (μ : ℝ) : limbs (μ : EReal) = ((-μ : ℝ) : EReal) := by
  have h0 : (0 : EReal) - (μ : EReal) = ((-μ : ℝ) : EReal) := by rw [zero_sub, EReal.coe_neg]
  have h1 : ((-μ : ℝ) : EReal) - ((-μ : ℝ) : EReal) = 0 := by rw [← EReal.coe_sub, sub_self, EReal.coe_zero]
  unfold limbs
  simp only [h0, h1, sub_zero]
  rw [Finset.sum_eq_single (0 : Fin 128)]
  · rfl
  · intro x _ hx
    have hc : IntOp.cmpi CmpIPredicate.eq (BitVec.ofNat 32 ↑x) 0#32 = 0#1 :=
      (by decide +kernel : ∀ x : Fin 128, x ≠ 0 → IntOp.cmpi CmpIPredicate.eq (BitVec.ofNat 32 ↑x) 0#32 = 0#1) x hx
    rw [hc]
    simp [Scalar.select]
  · intro h; exact absurd (Finset.mem_univ _) h

/-- The weight of one key of a block for one lane: the power of two of the scaled score plus the shift. -/
theorem pay15_at (q : FVec Ideal S1x128x256 .bf16) (mb : FVec Ideal S1x1x256 .f32) (K : FVec Ideal S1x256x128 .bf16)
    (r l : Fin 256) :
    k1_pay15 (qaOf q mb) k1_pay10 K (ix2 r l)
      = FloatOps.exp2 (F := Ideal) (φ := .f32) ((∑ d : Fin 128, K (ix3 0 r d) * q (ix3 0 d l) + limbs (mb (ix3 0 0 l)))
          * (Named.named (F := Ideal) κ "c" (φ := .f32) 0x3E0293EE#32)) := by
  unfold limbs
  pointwise [k1_pay15, qaOf, k1_pay9, k1_pay10, k1_pay7, k1_pay8, k1_pay6, k1_pay5, k1_pay4, k1_pay3]

/-- The weight of a key of the window of new tokens: as of a cached key, and zero off the mask. -/
theorem pay13_at (qa : FVec Ideal S256x256 .bf16) (ones : FVec Ideal S256x128 .bf16) (mk : IVec S256x256 1) (K : FVec Ideal S1x256x128 .bf16)
    (r l : Fin 256) :
    k1_pay13 qa ones mk K (ix2 r l) = Scalar.select (mk (ix2 r l)) (k1_pay15 qa ones K (ix2 r l)) 0 := by
  have h : k1_pay13 qa ones mk K = select mk (k1_pay15 qa ones K) (broadcast S256x256 (Scalar.ofBits .f32 0x00000000#32)) := rfl
  rw [h]
  pointwise []

/-- Thirty-two strided partial sums of eight lanes each are the sum over the 256 keys. -/
theorem tile8 (X : S256x256.Idx → EReal) (l : Fin 256) :
    ∑ x : Fin 8, ∑ i : Fin 32, X (ix2 (⟨↑i * 8 + ↑x, by omega⟩ : Fin 256) l) = ∑ r : Fin 256, X (ix2 r l) := by
  rw [Finset.sum_comm]
  exact (Fin.sum_univ_tiles 32 8 rfl (fun r => X (ix2 r l))).symm

/-- A sum over sixteen, written out. -/
theorem sum16 (f : Fin 16 → EReal) : ∑ j, f j = f 0 + (f 1 + (f 2 + (f 3 + (f 4 + (f 5 + (f 6 + (f 7 + (f 8 + (f 9 + (f 10 + (f 11
    + (f 12 + (f 13 + (f 14 + f 15)))))))))))))) := by
  simp only [Fin.sum_univ_succ, Fin.sum_univ_zero, add_zero]
  rfl

/-- The reciprocal of the weights' sum that the body multiplies with: over the window, the sixteen blocks of cached keys
    and the tail. -/
theorem l_at (qa : FVec Ideal S256x256 .bf16) (ones : FVec Ideal S256x128 .bf16) (mk : IVec S256x256 1) (Kn : FVec Ideal S1x256x128 .bf16)
   (K0 K1 K2 K3 K4 K5 K6 K7 K8 K9 K10 K11 K12 K13 K14 K15 : FVec Ideal S1x256x128 .bf16) (lt : FVec Ideal S1x1x256 .f32) (d : Fin 128) (l : Fin 256) :
   k1_pay65 qa ones
        (k1_pay58 qa ones
          (k1_pay49 qa ones
            (k1_pay42 qa ones
              (k1_pay34 qa ones
                (k1_pay29 qa ones
                  (k1_pay23 qa ones
                    (k1_pay16 qa ones mk Kn K0)
                    (k1_pay18 qa ones K1) K2 K3) K4 K5) K6 K7) K8 K9)
            (k1_pay44 qa ones K10) k1_pay45 K11)
          (k1_pay52 qa ones K12) (Named.named κ "c" 1040356334#32) K13 K14) K15 lt (ix2 d l)
     = Ideal.div 1 (((∑ r : Fin 256, k1_pay13 qa ones mk Kn (ix2 r l))
          + ((∑ r : Fin 256, k1_pay15 qa ones K0 (ix2 r l)) + ((∑ r : Fin 256, k1_pay15 qa ones K1 (ix2 r l)) + ((∑ r : Fin 256, k1_pay15 qa ones K2 (ix2 r l)) + ((∑ r : Fin 256, k1_pay15 qa ones K3 (ix2 r l)) + ((∑ r : Fin 256, k1_pay15 qa ones K4 (ix2 r l)) + ((∑ r : Fin 256, k1_pay15 qa ones K5 (ix2 r l)) + ((∑ r : Fin 256, k1_pay15 qa ones K6 (ix2 r l)) + ((∑ r : Fin 256, k1_pay15 qa ones K7 (ix2 r l)) + ((∑ r : Fin 256, k1_pay15 qa ones K8 (ix2 r l)) + ((∑ r : Fin 256, k1_pay15 qa ones K9 (ix2 r l)) + ((∑ r : Fin 256, k1_pay15 qa ones K10 (ix2 r l)) + ((∑ r : Fin 256, k1_pay15 qa ones K11 (ix2 r l)) + ((∑ r : Fin 256, k1_pay15 qa ones K12 (ix2 r l)) + ((∑ r : Fin 256, k1_pay15 qa ones K13 (ix2 r l)) + ((∑ r : Fin 256, k1_pay15 qa ones K14 (ix2 r l)) + ((∑ r : Fin 256, k1_pay15 qa ones K15 (ix2 r l))))))))))))))))))) + lt (ix3 0 0 l)) := by
  have e18 : k1_pay18 (F := Ideal) = k1_pay15 := rfl
  have e20 : k1_pay20 (F := Ideal) = k1_pay15 := rfl
  have e22 : k1_pay22 (F := Ideal) = k1_pay15 := rfl
  have e26 : k1_pay26 (F := Ideal) = k1_pay15 := rfl
  have e28 : k1_pay28 (F := Ideal) = k1_pay15 := rfl
  have e31 : k1_pay31 (F := Ideal) = k1_pay15 := rfl
  have e33 : k1_pay33 (F := Ideal) = k1_pay15 := rfl
  have e39 : k1_pay39 (F := Ideal) = k1_pay15 := rfl
  have e41 : k1_pay41 (F := Ideal) = k1_pay15 := rfl
  have e46 : ∀ K, k1_pay46 (F := Ideal) (k1_pay44 qa ones K) k1_pay45 = k1_pay15 qa ones K := fun _ => rfl
  have e48 : k1_pay48 (F := Ideal) = k1_pay15 := rfl
  have e53 : ∀ K, k1_pay53 (F := Ideal) (k1_pay52 qa ones K) (Named.named κ "c" 1040356334#32) = k1_pay15 qa ones K := fun _ => rfl
  have e55 : k1_pay55 (F := Ideal) = k1_pay15 := rfl
  have e57 : k1_pay57 (F := Ideal) = k1_pay15 := rfl
  have e61 : k1_pay61 (F := Ideal) = k1_pay15 := rfl
  pointwise [k1_pay65, k1_pay63, k1_pay58, k1_pay49, k1_pay42, k1_pay34, k1_pay29, k1_pay23, k1_pay16]
  simp only [e18, e20, e22, e26, e28, e31, e33, e39, e41, e46, e48, e53, e55, e57, e61, Finset.sum_add_distrib, tile8]
  congr 1
  congr 1
  simp only [add_assoc]

/-- What the body stores: the weighted values over the window, the four chunks of cached values and the tail, times the
    reciprocal. -/
theorem o_at (qa : FVec Ideal S256x256 .bf16) (ones : FVec Ideal S256x128 .bf16) (mk : IVec S256x256 1) (Kn : FVec Ideal S1x256x128 .bf16)
   (Vn : FVec Ideal S1x128x256 .bf16) (V0 V1 V2 V3 : FVec Ideal S1x128x1024 .bf16) (X0 X1 X2 X3 : FVec Ideal S1x1024x256 .bf16)
   (ot : FVec Ideal S1x256x128 .f32) (li : FVec Ideal S128x256 .f32) (l : Fin 256) (d : Fin 128) :
   k1_pay1 (k1_pay64 (k1_pay51 (k1_pay38 (k1_pay25 (k1_pay14 qa ones mk Kn Vn) V0 X0) (k1_pay36 V1) (k1_pay37 X1)
        (constant S128x256 FTy.f32 0#32)) V2 X2) V3 X3 ot) li (ix3 0 l d)
     = (((∑ r : Fin 256, Vn (ix3 0 d r) * k1_pay13 qa ones mk Kn (ix2 r l))
          + ((∑ r : Fin 1024, V0 (ix3 0 d r) * X0 (ix3 0 r l)) + ((∑ r : Fin 1024, V1 (ix3 0 d r) * X1 (ix3 0 r l)) + ((∑ r : Fin 1024, V2 (ix3 0 d r) * X2 (ix3 0 r l)) + ((∑ r : Fin 1024, V3 (ix3 0 d r) * X3 (ix3 0 r l))))))) + ot (ix3 0 l d)) * li (ix2 d l) := by
  pointwise [k1_pay1, k1_pay64, k1_pay51, k1_pay38, k1_pay25, k1_pay14, k1_pay36, k1_pay37]
  simp only [add_assoc]

/-- The group in which a block's first row lies, as the body computes it (a quotient rounded down). -/
def g0w (w : BitVec 32) : BitVec 32 :=
  Scalar.select
    (Scalar.andi
      (Scalar.cmpi CmpIPredicate.ne
        (Scalar.subi
          (Scalar.extui (Scalar.cmpi CmpIPredicate.sgt (Scalar.muli (256#32) w) 0#32))
          (Scalar.extui (Scalar.cmpi CmpIPredicate.slt (Scalar.muli (256#32) w) 0#32)))
        1#32)
      (Scalar.cmpi CmpIPredicate.ne (Scalar.remsi (Scalar.muli (256#32) w) 480#32) 0#32))
    (Scalar.subi (Scalar.divsi (Scalar.muli (256#32) w) 480#32) 1#32)
    (Scalar.divsi (Scalar.muli (256#32) w) 480#32)

/-- The group of the first row of a block, as the kernel computes it in words. -/
theorem g0w_eq : ∀ i : Fin 17, g0w (BitVec.ofNat 32 ↑i) = BitVec.ofNat 32 (256 * ↑i / 480) := by decide +kernel

/-- Which sequence a packed new key belongs to, as the kernel computes it in words. -/
theorem row_blk : ∀ r : Fin 256, Scalar.select (IntOp.cmpi CmpIPredicate.slt (IntOp.andi (BitVec.ofNat 32 ↑r) 127#32) 96#32)
          (IntOp.addi (IntOp.subi (BitVec.ofNat 32 ↑r) (IntOp.andi (BitVec.ofNat 32 ↑r) 127#32))
            (IntOp.shrsi ArithUnit.vector (IntOp.muli (IntOp.andi (BitVec.ofNat 32 ↑r) 127#32) 43691#32) 18#32))
          4294967295#32
      = BitVec.ofNat 32 (if (r : ℕ) % 128 < 96 then (r : ℕ) / 128 * 128 + (r : ℕ) % 128 / 6 else 4294967295) := by decide +kernel

/-- Which position a packed new key has, as the kernel computes it in words. -/
theorem row_pos : ∀ r : Fin 256, (IntOp.subi (IntOp.andi (BitVec.ofNat 32 ↑r) 127#32)
          (IntOp.muli
            (IntOp.shrsi ArithUnit.vector (IntOp.muli (IntOp.andi (BitVec.ofNat 32 ↑r) 127#32) 43691#32) 18#32) 6#32))
      = BitVec.ofNat 32 (↑r % 128 % 6) := by decide +kernel

/-- The group of a lane, as the body selects it. -/
theorem col_grp : ∀ (i : Fin 17) (l : Fin 256),
    Scalar.select (IntOp.cmpi CmpIPredicate.sge (IntOp.addi (Scalar.muli (256#32) (BitVec.ofNat 32 ↑i)) (BitVec.ofNat 32 ↑l))
        (Scalar.muli 480#32 (Scalar.addi (BitVec.ofNat 32 (256 * ↑i / 480)) 1#32)))
        (Scalar.addi (BitVec.ofNat 32 (256 * ↑i / 480)) 1#32) (BitVec.ofNat 32 (256 * ↑i / 480))
      = BitVec.ofNat 32 ((256 * ↑i + ↑l) / 480) := by decide +kernel

/-- Which sequence a query row belongs to, as the kernel computes it in words. -/
theorem col_blk : ∀ (i : Fin 17) (l : Fin 256), (IntOp.addi
          (IntOp.muli
            (IntOp.subi (BitVec.ofNat 32 ((256 * ↑i + ↑l) / 480)) (BitVec.ofNat 32 (256 * ↑i / 480)))
            128#32)
          (IntOp.andi
            (IntOp.subi (IntOp.addi (Scalar.muli (256#32) (BitVec.ofNat 32 ↑i)) (BitVec.ofNat 32 ↑l))
              (IntOp.muli (BitVec.ofNat 32 ((256 * ↑i + ↑l) / 480)) 480#32))
            15#32))
      = BitVec.ofNat 32 (((256 * ↑i + ↑l) / 480 - 256 * ↑i / 480) * 128 + (256 * ↑i + ↑l) % 480 % 16) := by decide +kernel

/-- Which position a query row has, as the kernel computes it in words. -/
theorem col_pos : ∀ (i : Fin 17) (l : Fin 256), (IntOp.shrsi ArithUnit.vector
          (IntOp.muli
            (IntOp.shrsi ArithUnit.vector
              (IntOp.subi (IntOp.addi (Scalar.muli (256#32) (BitVec.ofNat 32 ↑i)) (BitVec.ofNat 32 ↑l))
                (IntOp.muli (BitVec.ofNat 32 ((256 * ↑i + ↑l) / 480)) 480#32))
              4#32)
            52429#32)
          18#32)
      = BitVec.ofNat 32 ((256 * ↑i + ↑l) % 480 / 80) := by decide +kernel

/-- The mask of the window, in numbers: key `r` of the window is seen by lane `l` of block `i` exactly if it is a token of
    the lane's batch row (not padding) at a position not after the lane's. -/
theorem mask_at (i : Fin 17) (r l : Fin 256) :
    k1_pay12 (g0w (BitVec.ofNat 32 ↑i)) (k1_pay11 (BitVec.ofNat 32 ↑i))
        (Scalar.muli 480#32 (Scalar.addi (g0w (BitVec.ofNat 32 ↑i)) 1#32)) (ix2 r l)
      = if ((r : ℕ) % 128 < 96 ∧ (r : ℕ) / 128 * 128 + (r : ℕ) % 128 / 6 = ((256 * (i : ℕ) + (l : ℕ)) / 480 - 256 * (i : ℕ) / 480) * 128 + (256 * (i : ℕ) + (l : ℕ)) % 480 % 16)
          ∧ (r : ℕ) % 128 % 6 ≤ (256 * (i : ℕ) + (l : ℕ)) % 480 / 80 then 1#1 else 0#1 := by
  rw [g0w_eq]
  pointwise [k1_pay12, k1_pay11]
  rw [col_grp, col_blk, col_pos, row_blk, row_pos]
  have hr := r.isLt
  have hl := l.isLt
  have hi := i.isLt
  have he : ∀ a b : ℕ, a < 2 ^ 32 → b < 2 ^ 32 →
      IntOp.cmpi CmpIPredicate.eq (BitVec.ofNat 32 a) (BitVec.ofNat 32 b) = if a = b then 1#1 else 0#1 := by
    intro a b ha hb
    by_cases h : a = b
    · subst h; simp [IntOp.cmpi]
    · have hne : BitVec.ofNat 32 a ≠ BitVec.ofNat 32 b := by
        intro h'
        have := congrArg BitVec.toNat h'
        rw [BitVec.toNat_ofNat, BitVec.toNat_ofNat, Nat.mod_eq_of_lt ha, Nat.mod_eq_of_lt hb] at this
        exact h this
      rw [if_neg h]
      rw [WordCmp.cmpi_eq_eq, decide_eq_false hne]; rfl
  have hs : ∀ a b : ℕ, a < 2 ^ 31 → b < 2 ^ 31 →
      IntOp.cmpi CmpIPredicate.sle (BitVec.ofNat 32 a) (BitVec.ofNat 32 b) = if a ≤ b then 1#1 else 0#1 := by
    intro a b ha hb
    rw [WordCmp.cmpi_sle_ofNat ha hb]
    by_cases h : a ≤ b
    · simp [h]
    · simp [h]
  rw [he _ _ (by split <;> omega) (by omega), hs _ _ (by omega) (by omega)]
  generalize hA : ((256 * (i : ℕ) + (l : ℕ)) / 480 - 256 * (i : ℕ) / 480) * 128 + (256 * (i : ℕ) + (l : ℕ)) % 480 % 16 = A
  generalize (256 * (i : ℕ) + (l : ℕ)) % 480 / 80 = B
  have hA' : A < 4294967295 := by omega
  by_cases h1 : (r : ℕ) % 128 < 96
  · rw [if_pos h1]
    by_cases h2 : (r : ℕ) / 128 * 128 + (r : ℕ) % 128 / 6 = A
    · by_cases h3 : (r : ℕ) % 128 % 6 ≤ B
      · rw [if_pos h2, if_pos h3, if_pos ⟨⟨h1, h2⟩, h3⟩]; rfl
      · have hn : ¬(((r : ℕ) % 128 < 96 ∧ (r : ℕ) / 128 * 128 + (r : ℕ) % 128 / 6 = A) ∧ (r : ℕ) % 128 % 6 ≤ B) := fun h => h3 h.2
        rw [if_pos h2, if_neg h3, if_neg hn]; rfl
    · have hn : ¬(((r : ℕ) % 128 < 96 ∧ (r : ℕ) / 128 * 128 + (r : ℕ) % 128 / 6 = A) ∧ (r : ℕ) % 128 % 6 ≤ B) := fun h => h2 h.1.2
      rw [if_neg h2, if_neg hn]
      split <;> rfl
  · have hn : ¬(((r : ℕ) % 128 < 96 ∧ (r : ℕ) / 128 * 128 + (r : ℕ) % 128 / 6 = A) ∧ (r : ℕ) % 128 % 6 ≤ B) := fun h => h1 h.1.1
    rw [if_neg h1, if_neg (by omega), if_neg hn]
    split <;> rfl
end Cert.KernelIdeal.Hand
-- ==== Proof.KPoint.lean ====
module
public import proofs.«01_k».proof.Proof.KBody
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

/-- Position `n + r` among the 4096 cached keys. -/
def pos (n T : ℕ) (h : n + T ≤ 4096) (r : Fin T) : Fin 4096 := ⟨n + ↑r, by omega⟩

/-- A sum over 4096 cut into sixteen blocks of 256. -/
theorem sumTiles16 (E : Fin 4096 → EReal) : ∑ p, E p = ((∑ r : Fin 256, E (pos 0 256 (Nat.le_of_ble_eq_true rfl) r)) + ((∑ r : Fin 256, E (pos 256 256 (Nat.le_of_ble_eq_true rfl) r)) + ((∑ r : Fin 256, E (pos 512 256 (Nat.le_of_ble_eq_true rfl) r)) + ((∑ r : Fin 256, E (pos 768 256 (Nat.le_of_ble_eq_true rfl) r)) + ((∑ r : Fin 256, E (pos 1024 256 (Nat.le_of_ble_eq_true rfl) r)) + ((∑ r : Fin 256, E (pos 1280 256 (Nat.le_of_ble_eq_true rfl) r)) + ((∑ r : Fin 256, E (pos 1536 256 (Nat.le_of_ble_eq_true rfl) r)) + ((∑ r : Fin 256, E (pos 1792 256 (Nat.le_of_ble_eq_true rfl) r)) + ((∑ r : Fin 256, E (pos 2048 256 (Nat.le_of_ble_eq_true rfl) r)) + ((∑ r : Fin 256, E (pos 2304 256 (Nat.le_of_ble_eq_true rfl) r)) + ((∑ r : Fin 256, E (pos 2560 256 (Nat.le_of_ble_eq_true rfl) r)) + ((∑ r : Fin 256, E (pos 2816 256 (Nat.le_of_ble_eq_true rfl) r)) + ((∑ r : Fin 256, E (pos 3072 256 (Nat.le_of_ble_eq_true rfl) r)) + ((∑ r : Fin 256, E (pos 3328 256 (Nat.le_of_ble_eq_true rfl) r)) + ((∑ r : Fin 256, E (pos 3584 256 (Nat.le_of_ble_eq_true rfl) r)) + ((∑ r : Fin 256, E (pos 3840 256 (Nat.le_of_ble_eq_true rfl) r)))))))))))))))))) := by
  rw [Fin.sum_univ_tiles 16 256 rfl E, sum16]
  exact congrArg₂ (· + ·) (Finset.sum_congr rfl fun r _ => congrArg E (Fin.ext (show 0 * 256 + (r : ℕ) = 0 + (r : ℕ) by omega)))
    (congrArg₂ (· + ·) (Finset.sum_congr rfl fun r _ => congrArg E (Fin.ext (show 1 * 256 + (r : ℕ) = 256 + (r : ℕ) by omega)))
    (congrArg₂ (· + ·) (Finset.sum_congr rfl fun r _ => congrArg E (Fin.ext (show 2 * 256 + (r : ℕ) = 512 + (r : ℕ) by omega)))
    (congrArg₂ (· + ·) (Finset.sum_congr rfl fun r _ => congrArg E (Fin.ext (show 3 * 256 + (r : ℕ) = 768 + (r : ℕ) by omega)))
    (congrArg₂ (· + ·) (Finset.sum_congr rfl fun r _ => congrArg E (Fin.ext (show 4 * 256 + (r : ℕ) = 1024 + (r : ℕ) by omega)))
    (congrArg₂ (· + ·) (Finset.sum_congr rfl fun r _ => congrArg E (Fin.ext (show 5 * 256 + (r : ℕ) = 1280 + (r : ℕ) by omega)))
    (congrArg₂ (· + ·) (Finset.sum_congr rfl fun r _ => congrArg E (Fin.ext (show 6 * 256 + (r : ℕ) = 1536 + (r : ℕ) by omega)))
    (congrArg₂ (· + ·) (Finset.sum_congr rfl fun r _ => congrArg E (Fin.ext (show 7 * 256 + (r : ℕ) = 1792 + (r : ℕ) by omega)))
    (congrArg₂ (· + ·) (Finset.sum_congr rfl fun r _ => congrArg E (Fin.ext (show 8 * 256 + (r : ℕ) = 2048 + (r : ℕ) by omega)))
    (congrArg₂ (· + ·) (Finset.sum_congr rfl fun r _ => congrArg E (Fin.ext (show 9 * 256 + (r : ℕ) = 2304 + (r : ℕ) by omega)))
    (congrArg₂ (· + ·) (Finset.sum_congr rfl fun r _ => congrArg E (Fin.ext (show 10 * 256 + (r : ℕ) = 2560 + (r : ℕ) by omega)))
    (congrArg₂ (· + ·) (Finset.sum_congr rfl fun r _ => congrArg E (Fin.ext (show 11 * 256 + (r : ℕ) = 2816 + (r : ℕ) by omega)))
    (congrArg₂ (· + ·) (Finset.sum_congr rfl fun r _ => congrArg E (Fin.ext (show 12 * 256 + (r : ℕ) = 3072 + (r : ℕ) by omega)))
    (congrArg₂ (· + ·) (Finset.sum_congr rfl fun r _ => congrArg E (Fin.ext (show 13 * 256 + (r : ℕ) = 3328 + (r : ℕ) by omega)))
    (congrArg₂ (· + ·) (Finset.sum_congr rfl fun r _ => congrArg E (Fin.ext (show 14 * 256 + (r : ℕ) = 3584 + (r : ℕ) by omega)))
    (Finset.sum_congr rfl fun r _ => congrArg E (Fin.ext (show 15 * 256 + (r : ℕ) = 3840 + (r : ℕ) by omega)))))))))))))))))

/-- A sum over 4096 cut into four chunks of 1024. -/
theorem sumTiles4 (E : Fin 4096 → EReal) : ∑ p, E p = ((∑ r : Fin 1024, E (pos 0 1024 (Nat.le_of_ble_eq_true rfl) r)) + ((∑ r : Fin 1024, E (pos 1024 1024 (Nat.le_of_ble_eq_true rfl) r)) + ((∑ r : Fin 1024, E (pos 2048 1024 (Nat.le_of_ble_eq_true rfl) r)) + ((∑ r : Fin 1024, E (pos 3072 1024 (Nat.le_of_ble_eq_true rfl) r)))))) := by
  rw [Fin.sum_univ_tiles 4 1024 rfl E, Fin.sum_univ_four, add_assoc, add_assoc]
  exact congrArg₂ (· + ·) (Finset.sum_congr rfl fun r _ => congrArg E (Fin.ext (show 0 * 1024 + (r : ℕ) = 0 + (r : ℕ) by omega)))
    (congrArg₂ (· + ·) (Finset.sum_congr rfl fun r _ => congrArg E (Fin.ext (show 1 * 1024 + (r : ℕ) = 1024 + (r : ℕ) by omega)))
    (congrArg₂ (· + ·) (Finset.sum_congr rfl fun r _ => congrArg E (Fin.ext (show 2 * 1024 + (r : ℕ) = 2048 + (r : ℕ) by omega)))
    (Finset.sum_congr rfl fun r _ => congrArg E (Fin.ext (show 3 * 1024 + (r : ℕ) = 3072 + (r : ℕ) by omega)))))

/-- One lane's output: given the weights `E` of the 4096 cached keys for lane `l` (as each of the sixteen key blocks
    gives them, and as the scratch chunks give them back) and the dequantized values `W` in coordinate `d`, the stored element is
    the weighted sum over the window, the cached keys and the tail, divided by the weights' sum. -/
theorem body_at (qa : FVec Ideal S256x256 .bf16) (ones : FVec Ideal S256x128 .bf16) (mk : IVec S256x256 1) (Kn : FVec Ideal S1x256x128 .bf16)
    (Vn : FVec Ideal S1x128x256 .bf16) (K0 K1 K2 K3 K4 K5 K6 K7 K8 K9 K10 K11 K12 K13 K14 K15 : FVec Ideal S1x256x128 .bf16) (V0 V1 V2 V3 : FVec Ideal S1x128x1024 .bf16)
    (X0 X1 X2 X3 : FVec Ideal S1x1024x256 .bf16) (ot : FVec Ideal S1x256x128 .f32) (lt : FVec Ideal S1x1x256 .f32)
    (l : Fin 256) (d : Fin 128) (E W : Fin 4096 → EReal)
    (hK0 : ∀ r : Fin 256, k1_pay15 qa ones K0 (ix2 r l) = E (pos 0 256 (Nat.le_of_ble_eq_true rfl) r))
    (hK1 : ∀ r : Fin 256, k1_pay15 qa ones K1 (ix2 r l) = E (pos 256 256 (Nat.le_of_ble_eq_true rfl) r))
    (hK2 : ∀ r : Fin 256, k1_pay15 qa ones K2 (ix2 r l) = E (pos 512 256 (Nat.le_of_ble_eq_true rfl) r))
    (hK3 : ∀ r : Fin 256, k1_pay15 qa ones K3 (ix2 r l) = E (pos 768 256 (Nat.le_of_ble_eq_true rfl) r))
    (hK4 : ∀ r : Fin 256, k1_pay15 qa ones K4 (ix2 r l) = E (pos 1024 256 (Nat.le_of_ble_eq_true rfl) r))
    (hK5 : ∀ r : Fin 256, k1_pay15 qa ones K5 (ix2 r l) = E (pos 1280 256 (Nat.le_of_ble_eq_true rfl) r))
    (hK6 : ∀ r : Fin 256, k1_pay15 qa ones K6 (ix2 r l) = E (pos 1536 256 (Nat.le_of_ble_eq_true rfl) r))
    (hK7 : ∀ r : Fin 256, k1_pay15 qa ones K7 (ix2 r l) = E (pos 1792 256 (Nat.le_of_ble_eq_true rfl) r))
    (hK8 : ∀ r : Fin 256, k1_pay15 qa ones K8 (ix2 r l) = E (pos 2048 256 (Nat.le_of_ble_eq_true rfl) r))
    (hK9 : ∀ r : Fin 256, k1_pay15 qa ones K9 (ix2 r l) = E (pos 2304 256 (Nat.le_of_ble_eq_true rfl) r))
    (hK10 : ∀ r : Fin 256, k1_pay15 qa ones K10 (ix2 r l) = E (pos 2560 256 (Nat.le_of_ble_eq_true rfl) r))
    (hK11 : ∀ r : Fin 256, k1_pay15 qa ones K11 (ix2 r l) = E (pos 2816 256 (Nat.le_of_ble_eq_true rfl) r))
    (hK12 : ∀ r : Fin 256, k1_pay15 qa ones K12 (ix2 r l) = E (pos 3072 256 (Nat.le_of_ble_eq_true rfl) r))
    (hK13 : ∀ r : Fin 256, k1_pay15 qa ones K13 (ix2 r l) = E (pos 3328 256 (Nat.le_of_ble_eq_true rfl) r))
    (hK14 : ∀ r : Fin 256, k1_pay15 qa ones K14 (ix2 r l) = E (pos 3584 256 (Nat.le_of_ble_eq_true rfl) r))
    (hK15 : ∀ r : Fin 256, k1_pay15 qa ones K15 (ix2 r l) = E (pos 3840 256 (Nat.le_of_ble_eq_true rfl) r))
    (hV0 : ∀ r : Fin 1024, V0 (ix3 0 d r) = W (pos 0 1024 (Nat.le_of_ble_eq_true rfl) r))
    (hV1 : ∀ r : Fin 1024, V1 (ix3 0 d r) = W (pos 1024 1024 (Nat.le_of_ble_eq_true rfl) r))
    (hV2 : ∀ r : Fin 1024, V2 (ix3 0 d r) = W (pos 2048 1024 (Nat.le_of_ble_eq_true rfl) r))
    (hV3 : ∀ r : Fin 1024, V3 (ix3 0 d r) = W (pos 3072 1024 (Nat.le_of_ble_eq_true rfl) r))
    (hX0 : ∀ r : Fin 1024, X0 (ix3 0 r l) = E (pos 0 1024 (Nat.le_of_ble_eq_true rfl) r))
    (hX1 : ∀ r : Fin 1024, X1 (ix3 0 r l) = E (pos 1024 1024 (Nat.le_of_ble_eq_true rfl) r))
    (hX2 : ∀ r : Fin 1024, X2 (ix3 0 r l) = E (pos 2048 1024 (Nat.le_of_ble_eq_true rfl) r))
    (hX3 : ∀ r : Fin 1024, X3 (ix3 0 r l) = E (pos 3072 1024 (Nat.le_of_ble_eq_true rfl) r)) :
    k1_pay1 (k1_pay64 (k1_pay51 (k1_pay38 (k1_pay25 (k1_pay14 qa ones mk Kn Vn) V0 X0) (k1_pay36 V1) (k1_pay37 X1)
        (constant S128x256 FTy.f32 0#32)) V2 X2) V3 X3 ot)
      (k1_pay65 qa ones
        (k1_pay58 qa ones
          (k1_pay49 qa ones
            (k1_pay42 qa ones
              (k1_pay34 qa ones
                (k1_pay29 qa ones
                  (k1_pay23 qa ones
                    (k1_pay16 qa ones mk Kn K0)
                    (k1_pay18 qa ones K1) K2 K3) K4 K5) K6 K7) K8 K9)
            (k1_pay44 qa ones K10) k1_pay45 K11)
          (k1_pay52 qa ones K12) (Named.named κ "c" 1040356334#32) K13 K14) K15 lt) (ix3 0 l d)
     = (((∑ r : Fin 256, Vn (ix3 0 d r) * k1_pay13 qa ones mk Kn (ix2 r l)) + ∑ p : Fin 4096, W p * E p) + ot (ix3 0 l d))
        * Ideal.div 1 (((∑ r : Fin 256, k1_pay13 qa ones mk Kn (ix2 r l)) + ∑ p : Fin 4096, E p) + lt (ix3 0 0 l)) := by
  rw [o_at, l_at, sumTiles16 E, sumTiles4 fun p => W p * E p]
  simp only [hK0, hK1, hK2, hK3, hK4, hK5, hK6, hK7, hK8, hK9, hK10, hK11, hK12, hK13, hK14, hK15, hV0, hX0, hV1, hX1, hV2, hX2, hV3, hX3]

/-- A chunk of the scratch read back: after the four stores of 256 rows into one slot, the slot's 1024 rows hold what was stored. -/
theorem chunk_read {κ : Kind} {sp : Space} (v : View sig κ sp S2x1024x256 .bf16) (s : ℕ) (P0 P1 P2 P3 : FVec Ideal S1x256x256 .bf16)
    (L : List (View.Piece (Elt Ideal) S2x1024x256 .bf16)) (i0 i1 i2 i3 i4) (E : Fin 1024 → Fin 256 → EReal)
    (h0 : ∀ (r l : Fin 256), P0 (ix3 0 r l) = E ⟨0 + ↑r, by omega⟩ l) (h1 : ∀ (r l : Fin 256), P1 (ix3 0 r l) = E ⟨256 + ↑r, by omega⟩ l)
    (h2 : ∀ (r l : Fin 256), P2 (ix3 0 r l) = E ⟨512 + ↑r, by omega⟩ l) (h3 : ∀ (r l : Fin 256), P3 (ix3 0 r l) = E ⟨768 + ↑r, by omega⟩ l)
    (r : Fin 1024) (l : Fin 256) :
    v.readCov (Val := Elt Ideal) (⟨Rect.unit (s := S2x1024x256) ![s, 768, 0] ![1, 256, 256] i3, P3⟩ :: ⟨Rect.unit (s := S2x1024x256) ![s, 512, 0] ![1, 256, 256] i2, P2⟩
        :: ⟨Rect.unit (s := S2x1024x256) ![s, 256, 0] ![1, 256, 256] i1, P1⟩ :: ⟨Rect.unit (s := S2x1024x256) ![s, 0, 0] ![1, 256, 256] i0, P0⟩ :: L)
      (Rect.unit (s := S2x1024x256) ![s, 0, 0] ![1, 1024, 256] i4).toLoadRect (ix3 (0 : Fin 1) r l) = E r l := by
  rw [View.readCov_eq_canon']
  obtain ⟨G, hG⟩ : ∃ G : S2x1024x256.Idx → Elt Ideal .bf16, ∀ y, G y = E (y 1) (y 2) := ⟨fun y => E (y 1) (y 2), fun _ => rfl⟩
  have hp : ∀ (n : ℕ) (hn : n + 256 ≤ 1024) (i) (P : FVec Ideal S1x256x256 .bf16)
      (h : ∀ (r l : Fin 256), P (ix3 0 r l) = E ⟨n + ↑r, by omega⟩ l) (x : S1x256x256.Idx),
      P x = G ((Rect.unit (s := S2x1024x256) ![s, n, 0] ![1, 256, 256] i).emb x) := by
    intro n hn i P h x
    idx_vars x
    obtain rfl : x0 = 0 := Subsingleton.elim _ _
    rw [h, hG]
    refine congrArg₂ E (Fin.ext ?_) (Fin.ext ?_)
    · show n + (x1 : ℕ) = n + 1 * (x1 : ℕ); omega
    · show (x2 : ℕ) = 0 + 1 * (x2 : ℕ); omega
  refine (View.canon_append_of_piecesOf G L
    [⟨Rect.unit (s := S2x1024x256) ![s, 768, 0] ![1, 256, 256] i3, P3⟩, ⟨Rect.unit (s := S2x1024x256) ![s, 512, 0] ![1, 256, 256] i2, P2⟩,
     ⟨Rect.unit (s := S2x1024x256) ![s, 256, 0] ![1, 256, 256] i1, P1⟩, ⟨Rect.unit (s := S2x1024x256) ![s, 0, 0] ![1, 256, 256] i0, P0⟩]
    ⟨hp 768 (by omega) i3 P3 h3, hp 512 (by omega) i2 P2 h2, hp 256 (by omega) i1 P1 h1, hp 0 (by omega) i0 P0 h0, trivial⟩
    ((Rect.unit (s := S2x1024x256) ![s, 0, 0] ![1, 1024, 256] i4).toLoadRect.idx (ix3 (0 : Fin 1) r l)) ?_).trans ?_
  · have hm : ∀ (n : ℕ) (i), n ≤ (r : ℕ) → (r : ℕ) < n + 256 →
        (Rect.unit (s := S2x1024x256) ![s, 0, 0] ![1, 1024, 256] i4).toLoadRect.idx (ix3 (0 : Fin 1) r l)
          ∈ (Rect.unit (s := S2x1024x256) ![s, n, 0] ![1, 256, 256] i).set := by
      intro n i hn hn'
      rw [Rect.mem_set_unit]
      intro a
      match a with
      | ⟨0, _⟩ => show s ≤ s + 1 * 0 ∧ s + 1 * 0 < s + 1; omega
      | ⟨1, _⟩ => show n ≤ 0 + 1 * (r : ℕ) ∧ 0 + 1 * (r : ℕ) < n + 256; omega
      | ⟨2, _⟩ => show 0 ≤ 0 + 1 * (l : ℕ) ∧ 0 + 1 * (l : ℕ) < 0 + 256; omega
    have hr := r.isLt
    rcases (by omega : (768 ≤ (r : ℕ)) ∨ (512 ≤ (r : ℕ) ∧ (r : ℕ) < 512 + 256) ∨ (256 ≤ (r : ℕ) ∧ (r : ℕ) < 256 + 256) ∨ (r : ℕ) < 0 + 256) with h | h | h | h
    · exact ⟨_, List.mem_cons_self, hm 768 i3 h (by omega)⟩
    · exact ⟨_, List.mem_cons_of_mem _ List.mem_cons_self, hm 512 i2 h.1 h.2⟩
    · exact ⟨_, List.mem_cons_of_mem _ (List.mem_cons_of_mem _ List.mem_cons_self), hm 256 i1 h.1 h.2⟩
    · exact ⟨_, List.mem_cons_of_mem _ (List.mem_cons_of_mem _ (List.mem_cons_of_mem _ List.mem_cons_self)), hm 0 i0 (by omega) h⟩
  · rw [hG]
    refine congrArg₂ E (Fin.ext ?_) (Fin.ext ?_)
    · show 0 + 1 * (r : ℕ) = (r : ℕ); omega
    · show 0 + 1 * (l : ℕ) = (l : ℕ); omega

end Cert.KernelIdeal.Hand
-- ==== Proof.KDeq.lean ====
module
public import proofs.«01_k».proof.Proof.Gen.KernelIdeal.Frame
public import proofs.«01_k».proof.Proof.KPoint

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

variable (V : (c : Dev nD) → (b : Ref sig .tc) → Buf (Elt Ideal) ((c : Thread nD τ).loc b))

/-- The block indices of the dequant call's windows at every grid point. -/
theorem idx0 : ∀ t : Fin cfg0.N, win0_0.index t = ![t.val, 0, 0] ∧ win0_1.index t = ![t.val, 0, 0] ∧ win0_2.index t = ![t.val, 0]
    ∧ win0_3.index t = ![t.val, 0] ∧ win0_4.index t = ![0, t.val, 0] ∧ win0_5.index t = ![0, 0, t.val] :=
  (by decide +kernel : ∀ t : Fin grid0.N, _)

/-- The dequantized keys, head first: each fp8 key times its row's scale. -/
def deqK (k : FVec Ideal S4096x8x128 .fp8e4m3) (s : FVec Ideal S4096x8 .f32) : FVec Ideal S8x4096x128 .bf16 :=
  fun j => k (ix3 (j 1) (j 0) (j 2)) * s (ix2 (j 1) (j 0))

/-- The dequantized values, head first and transposed: each fp8 value times its row's scale. -/
def deqV (v : FVec Ideal S4096x8x128 .fp8e4m3) (s : FVec Ideal S4096x8 .f32) : FVec Ideal S8x128x4096 .bf16 :=
  fun j => v (ix3 (j 2) (j 0) (j 1)) * s (ix2 (j 2) (j 0))

/-- The block of dequantized keys a grid point stores, at an index. -/
theorem out4_at (x0 x1 : Vec Ideal S512x8x128 .fp8e4m3) (x2 x3 : Vec Ideal S512x8 .f32) (h : Fin 8) (r : Fin 512) (d : Fin 128) :
    out0_4 x0 x1 x2 x3 (ix3 h r d) = (show FVec Ideal S512x8x128 .fp8e4m3 from x0) (ix3 r h d) * (show FVec Ideal S512x8 .f32 from x2) (ix2 r h) := by
  unfold out0_4
  canon_tiles x hh
  all_goals (pointwise [k0_pay2, k0_pay4, k0_pay6, k0_pay8, k0_pay10, k0_pay12, k0_pay14, k0_pay15, k0_pay17]; change (h : ℕ) = _ at hh0; change (r : ℕ) = _ at hh1; change (d : ℕ) = _ at hh2; blk_point [] <;> simp <;> omega)

/-- The block of dequantized values a grid point stores, at an index. -/
theorem out5_at (x0 x1 : Vec Ideal S512x8x128 .fp8e4m3) (x2 x3 : Vec Ideal S512x8 .f32) (h : Fin 8) (d : Fin 128) (r : Fin 512) :
    out0_5 x0 x1 x2 x3 (ix3 h d r) = (show FVec Ideal S512x8x128 .fp8e4m3 from x1) (ix3 r h d) * (show FVec Ideal S512x8 .f32 from x3) (ix2 r h) := by
  unfold out0_5
  canon_tiles x hh
  all_goals (pointwise [k0_pay1, k0_pay3, k0_pay5, k0_pay7, k0_pay9, k0_pay11, k0_pay13, k0_pay16, k0_pay18]; change (h : ℕ) = _ at hh0; change (d : ℕ) = _ at hh1; change (r : ℕ) = _ at hh2; blk_point [] <;> simp <;> omega)

/-- The dequantized keys after the run of the first call. -/
theorem arr4 (c : Dev nD) : (dat0 V c).arrAt 4 cfg0.N
    = deqK (V c (Pipeline.arrRef spec0 0)) (V c (Pipeline.arrRef spec0 2)) := by
  refine (dat0 V c).arrAt_eq_of_covers 4 _ (by decide +kernel) fun t hf y => ?_
  blk_simp
  rw [after0_4]
  idx_vars y
  refine (out4_at _ _ _ _ _ _ _).trans ?_
  simp only [deqK]
  blk_point [iblk0, idx0 t]

/-- The dequantized values after the run of the first call. -/
theorem arr5 (c : Dev nD) : (dat0 V c).arrAt 5 cfg0.N
    = deqV (V c (Pipeline.arrRef spec0 1)) (V c (Pipeline.arrRef spec0 3)) := by
  refine (dat0 V c).arrAt_eq_of_covers 5 _ (by decide +kernel) fun t hf y => ?_
  blk_simp
  rw [after0_5]
  idx_vars y
  refine (out5_at _ _ _ _ _ _ _).trans ?_
  simp only [deqV]
  blk_point [iblk0, idx0 t]
end Cert.KernelIdeal.Hand
-- ==== Proof.KFinal.lean ====
module
public import proofs.«01_k».proof.Proof.Gen.KernelIdeal.Frame
public import proofs.«01_k».proof.Proof.KPoint

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

variable (V : (c : Dev nD) → (b : Ref sig .tc) → Buf (Elt Ideal) ((c : Thread nD τ).loc b))

/-- The weight of a key for lane `l`, from a block of queries and of shifts and the key's coordinates. -/
def wtk (q : FVec Ideal S1x128x256 .bf16) (mb : FVec Ideal S1x8x256 .f32) (key : Fin 128 → EReal) (l : Fin 256) : EReal :=
  FloatOps.exp2 (F := Ideal) (φ := .f32) ((∑ d : Fin 128, key d * q (ix3 0 d l) + limbs (mb (ix3 0 0 l)))
          * (Named.named (F := Ideal) κ "c" (φ := .f32) 0x3E0293EE#32))

/-- A weight of the kernel, read at one key and one row. -/
theorem pay15_wt (q : FVec Ideal S1x128x256 .bf16) (mb : FVec Ideal S1x8x256 .f32) (m1 : FVec Ideal S1x1x256 .f32)
    (K : FVec Ideal S1x256x128 .bf16) (l r : Fin 256) (key : Fin 128 → EReal) (hm : m1 (ix3 0 0 l) = mb (ix3 0 0 l)) (hK : ∀ d : Fin 128, K (ix3 0 r d) = key d) :
    k1_pay15 (qaOf q m1) k1_pay10 K (ix2 r l) = wtk q mb key l := by
  rw [pay15_at]
  unfold wtk
  rw [hm]
  simp only [hK]

/-- Equal coordinates give equal indices. -/
theorem ix3_congr {n₀ n₁ n₂ : ℕ} {a a' : Fin n₀} {b b' : Fin n₁} {e e' : Fin n₂} (h0 : a = a') (h1 : b = b') (h2 : e = e') :
    (ix3 a b e) = ix3 a' b' e' := by rw [h0, h1, h2]

/-- Key `r` of the window of block `i`, among the 1280 rows of new tokens. -/
def wpos (i : Fin 17) (r : Fin 256) : Fin 1280 := ⟨128 * (256 * (i : ℕ) / 480) + (r : ℕ), by omega⟩

/-- The mask of the window, in numbers (`mask_at`). -/
def sees (i : Fin 17) (r l : Fin 256) : Prop :=
  ((r : ℕ) % 128 < 96 ∧ (r : ℕ) / 128 * 128 + (r : ℕ) % 128 / 6 = ((256 * (i : ℕ) + (l : ℕ)) / 480 - 256 * (i : ℕ) / 480) * 128 + (256 * (i : ℕ) + (l : ℕ)) % 480 % 16)
          ∧ (r : ℕ) % 128 % 6 ≤ (256 * (i : ℕ) + (l : ℕ)) % 480 / 80

instance (i : Fin 17) (r l : Fin 256) : Decidable (sees i r l) := by unfold sees; infer_instance

/-- The block of rows of a grid point. -/
def blkOf (t : Fin cfg1.N) : Fin 17 := grid1.coords t 1

/-- Where the window of packed new keys starts. -/
theorem off1_eq : ∀ t : Fin grid1.N, k1_off1 (grid1.coords t) 0 = 0 ∧ k1_off1 (grid1.coords t) 1 = 128 * (256 * (grid1.coords t 1 : ℕ) / 480)
    ∧ k1_off1 (grid1.coords t) 2 = 0 := by decide +kernel

/-- Where the window of packed new values starts. -/
theorem off2_eq : ∀ t : Fin grid1.N, k1_off2 (grid1.coords t) 0 = 0 ∧ k1_off2 (grid1.coords t) 1 = 0
    ∧ k1_off2 (grid1.coords t) 2 = 128 * (256 * (grid1.coords t 1 : ℕ) / 480) := by decide +kernel

/-- A stored piece of the scratch is the block of weights. -/
theorem store_at (qa : FVec Ideal S256x256 .bf16) (ones : FVec Ideal S256x128 .bf16) (K : FVec Ideal S1x256x128 .bf16) (P : FVec Ideal S1x256x256 .bf16)
    (h : P = k1_pay17 qa ones K) (r l : Fin 256) : P (ix3 0 r l) = k1_pay15 qa ones K (ix2 r l) := by
  subst h
  pointwise [k1_pay17]

/-- The weight of window key `r` for lane `l` of block `i`: as of any key where the mask shows it, zero elsewhere. -/
def wwin (i : Fin 17) (q : FVec Ideal S1x128x256 .bf16) (mb : FVec Ideal S1x8x256 .f32) (knb : FVec Ideal S1x1280x128 .bf16) (r l : Fin 256) : EReal :=
  if sees i r l then wtk q mb (fun d' => knb (ix3 0 (wpos i r) d')) l else 0

/-- The output of block `i` for lane `l` in coordinate `d`, from the blocks the region reads: the weighted sum of the window's, the
    cached and the tail's values, times the reciprocal of the weights' sum. -/
def rowOut (i : Fin 17) (q : FVec Ideal S1x128x256 .bf16) (mb : FVec Ideal S1x8x256 .f32) (kb : FVec Ideal S1x4096x128 .bf16)
    (vb : FVec Ideal S1x128x4096 .bf16) (knb : FVec Ideal S1x1280x128 .bf16) (vnb : FVec Ideal S1x128x1280 .bf16)
    (ot : FVec Ideal S1x256x128 .f32) (lt : FVec Ideal S1x1x256 .f32) (l : Fin 256) (d : Fin 128) : EReal :=
  (((∑ r : Fin 256, vnb (ix3 0 d (wpos i r)) * wwin i q mb knb r l)
      + ∑ p : Fin 4096, vb (ix3 0 d p) * wtk q mb (fun d' => kb (ix3 0 p d')) l) + ot (ix3 0 l d))
    * Ideal.div 1 (((∑ r : Fin 256, wwin i q mb knb r l)
      + ∑ p : Fin 4096, wtk q mb (fun d' => kb (ix3 0 p d')) l) + lt (ix3 0 0 l))

/-- The body's weight of a window key is `wwin`. -/
theorem pay13_win (i : Fin 17) (q : FVec Ideal S1x128x256 .bf16) (mb : FVec Ideal S1x8x256 .f32) (knb : FVec Ideal S1x1280x128 .bf16) (r l : Fin 256)
    (m1 : FVec Ideal S1x1x256 .f32) (K : FVec Ideal S1x256x128 .bf16) (mk : IVec S256x256 1)
    (hm : m1 (ix3 0 0 l) = mb (ix3 0 0 l)) (hK : ∀ d', K (ix3 0 r d') = knb (ix3 0 (wpos i r) d'))
    (hmk : mk = k1_pay12 (g0w (BitVec.ofNat 32 ↑i)) (k1_pay11 (BitVec.ofNat 32 ↑i))
        (Scalar.muli 480#32 (Scalar.addi (g0w (BitVec.ofNat 32 ↑i)) 1#32))) :
    k1_pay13 (qaOf q m1) k1_pay10 mk K (ix2 r l) = wwin i q mb knb r l := by
  rw [pay13_at, hmk, mask_at, pay15_wt _ _ _ _ _ _ _ hm hK]
  unfold wwin
  by_cases hs : sees i r l
  · rw [if_pos hs, if_pos (by exact hs)]; rfl
  · rw [if_neg hs, if_neg (by exact hs)]; rfl

/-- What the body of the attention region stores for lane `l` and coordinate `d`. -/
theorem point8 (c : Dev nD) (t : Fin cfg1.N) (l : Fin 256) (d : Fin 128) :
    (outsAt1 V c t).1 (ix3 0 l d)
      = rowOut (blkOf t) (iblk1 V c 0 t) (iblk1 V c 1 t) (iblk1 V c 2 t) (iblk1 V c 3 t) (iblk1 V c 4 t) (iblk1 V c 5 t) (iblk1 V c 6 t) (iblk1 V c 7 t) l d := by
  unfold outsAt1
  frame_open
  simp (disch := decide) only [↓ View.readCov_skip, ↓ View.readCov_cons_toLoadRect, ↓ View.readCov_fill]
  frame_out
  unfold rowOut
  refine (body_at _ _ _ _ _ _ _ _ _ _ _ _ _ _ _ _ _ _ _ _ _ _ _ _ _ _ _ _ _ _ _ l d
    (fun p => wtk (iblk1 V c 0 t) (iblk1 V c 1 t) (fun d' => iblk1 V c 2 t (ix3 0 p d')) l) (fun p => (iblk1 V c 3 t) (ix3 0 d p)) ?_ ?_ ?_ ?_ ?_ ?_ ?_ ?_
    ?_ ?_ ?_ ?_ ?_ ?_ ?_ ?_ ?_ ?_ ?_ ?_ ?_ ?_ ?_ ?_).trans ?_
  iterate 16 (intro r; refine pay15_wt _ _ _ _ _ _ _ ?_ ?_ <;> [skip; intro d'] <;> pointwise [] <;> first | rfl | simp only [pos, zero_add])
  iterate 4 (intro r; pointwise []; first | rfl | simp only [pos, zero_add])
  · intro r
    refine chunk_read _ _ _ _ _ _ _ _ _ _ _ _ (fun r l => wtk (iblk1 V c 0 t) (iblk1 V c 1 t) (fun d' => iblk1 V c 2 t (ix3 0 (pos 0 1024 (by omega) r) d')) l) ?_ ?_ ?_ ?_ r l
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
  · intro r
    refine chunk_read _ _ _ _ _ _ _ _ _ _ _ _ (fun r l => wtk (iblk1 V c 0 t) (iblk1 V c 1 t) (fun d' => iblk1 V c 2 t (ix3 0 (pos 1024 1024 (by omega) r) d')) l) ?_ ?_ ?_ ?_ r l
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
  · intro r
    refine chunk_read _ _ _ _ _ _ _ _ _ _ _ _ (fun r l => wtk (iblk1 V c 0 t) (iblk1 V c 1 t) (fun d' => iblk1 V c 2 t (ix3 0 (pos 2048 1024 (by omega) r) d')) l) ?_ ?_ ?_ ?_ r l
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
  · intro r
    refine chunk_read _ _ _ _ _ _ _ _ _ _ _ _ (fun r l => wtk (iblk1 V c 0 t) (iblk1 V c 1 t) (fun d' => iblk1 V c 2 t (ix3 0 (pos 3072 1024 (by omega) r) d')) l) ?_ ?_ ?_ ?_ r l
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
    · intro r l
      refine (store_at _ _ _ _ rfl r l).trans (pay15_wt _ _ _ _ _ _ _ ?_ ?_)
      · pointwise []
      · intro d'; pointwise []; refine congrArg (fun z => iblk1 V c 2 t (ix3 0 z d')) (Fin.ext ?_); simp only [pos] <;> omega
  have h13 : ∀ r : Fin 256, _ := fun r => pay13_win (blkOf t) (iblk1 V c 0 t) (iblk1 V c 1 t) (iblk1 V c 4 t) r l
    (View.ld (iblk1 V c 1 t) (Rect.unit ![0, 0, 0] ![1, 1, 256] inb_S1x8x256_S1x1x256_0_0_0))
    (View.ld (iblk1 V c 4 t) (Rect.unit (k1_off1 (grid1.coords t)) ![1, 256, 128] (k1_off1_inb (grid1.coords t)))) _ (by pointwise []) (by
      intro d'
      pointwise []
      refine congrArg (iblk1 V c 4 t) (ix3_congr (Fin.ext ?_) (Fin.ext ?_) (Fin.ext ?_))
      · have := (off1_eq t).1
        simp [this]
      · have := (off1_eq t).2.1
        simp only [this]
        rfl
      · have := (off1_eq t).2.2
        simp [this]) rfl
  refine congrArg₂ (· * ·) (congrArg₂ (· + ·) (congrArg₂ (· + ·) (Finset.sum_congr rfl fun r _ => congrArg₂ (· * ·) ?_ (h13 r)) rfl) rfl)
    (congrArg (Ideal.div 1) (congrArg₂ (· + ·) (congrArg₂ (· + ·) (Finset.sum_congr rfl fun r _ => h13 r) rfl) rfl))
  pointwise []
  refine congrArg (iblk1 V c 5 t) (ix3_congr (Fin.ext ?_) (Fin.ext ?_) (Fin.ext ?_))
  · have := (off2_eq t).1
    simp [this]
  · have := (off2_eq t).2.1
    simp [this]
  · have := (off2_eq t).2.2
    simp only [this]
    rfl
end Cert.KernelIdeal.Hand
-- ==== Proof.KBlk.lean ====
module
public import proofs.«01_k».proof.Proof.KFinal

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

variable (V : (c : Dev nD) → (b : Ref sig .tc) → Buf (Elt Ideal) ((c : Thread nD τ).loc b))

/-- The head a grid point of the prefix call works on. -/
def headOf (t : Fin cfg1.N) : Fin 8 := grid1.coords t 0

/-- The block indices of the prefix call's windows at every grid point. -/
theorem idx1 : ∀ t : Fin cfg1.N, win1_0.index t = ![(grid1.coords t 0).val, 0, (grid1.coords t 1).val]
    ∧ win1_1.index t = ![(grid1.coords t 0).val, 0, (grid1.coords t 1).val]
    ∧ win1_2.index t = ![(grid1.coords t 0).val, 0, 0] ∧ win1_3.index t = ![(grid1.coords t 0).val, 0, 0]
    ∧ win1_4.index t = ![(grid1.coords t 0).val, 0, 0] ∧ win1_5.index t = ![(grid1.coords t 0).val, 0, 0]
    ∧ win1_6.index t = ![(grid1.coords t 0).val, (grid1.coords t 1).val, 0]
    ∧ win1_7.index t = ![(grid1.coords t 0).val, 0, (grid1.coords t 1).val]
    ∧ win1_8.index t = ![(grid1.coords t 0).val, (grid1.coords t 1).val, 0] :=
  (by decide +kernel : ∀ t : Fin grid1.N, _)

/-- The column of lane `l` of block `i`. -/
def colOf (i : Fin 17) (l : Fin 256) : Fin 4352 := ⟨256 * (i : ℕ) + (l : ℕ), by omega⟩

/-- The block of the array of window 0 that head `h` and block `i` read. -/
def blkQ (X : FVec Ideal S8x128x4352 .bf16) (h : Fin 8) (i : Fin 17) : FVec Ideal S1x128x256 .bf16 := fun y => X (ix3 h (y 1) (colOf i (y 2)))

/-- Window 0's block at a grid point is that block of its array. -/
theorem iblkQ (c : Dev nD) (t : Fin cfg1.N) :
    iblk1 V c 0 t = blkQ (V c (Pipeline.arrRef spec1 0)) (headOf t) (blkOf t) := by
  funext y
  simp only [blkQ, headOf, blkOf, colOf]
  blk_ext [iblk1, idx1 t]

/-- The block of the array of window 1 that head `h` and block `i` read. -/
def blkM (X : FVec Ideal S8x8x4352 .f32) (h : Fin 8) (i : Fin 17) : FVec Ideal S1x8x256 .f32 := fun y => X (ix3 h (y 1) (colOf i (y 2)))

/-- Window 1's block at a grid point is that block of its array. -/
theorem iblkM (c : Dev nD) (t : Fin cfg1.N) :
    iblk1 V c 1 t = blkM (V c (Pipeline.arrRef spec1 1)) (headOf t) (blkOf t) := by
  funext y
  simp only [blkM, headOf, blkOf, colOf]
  blk_ext [iblk1, idx1 t]

/-- The block of the array of window 2 that head `h` read. -/
def blkK (X : FVec Ideal S8x4096x128 .bf16) (h : Fin 8) : FVec Ideal S1x4096x128 .bf16 := fun y => X (ix3 h (y 1) (y 2))

/-- Window 2's block at a grid point is that block of its array. -/
theorem iblkK (c : Dev nD) (t : Fin cfg1.N) :
    iblk1 V c 2 t = blkK (V c (Pipeline.arrRef spec1 2)) (headOf t) := by
  funext y
  simp only [blkK, headOf, blkOf, colOf]
  blk_ext [iblk1, idx1 t]

/-- The block of the array of window 3 that head `h` read. -/
def blkVt (X : FVec Ideal S8x128x4096 .bf16) (h : Fin 8) : FVec Ideal S1x128x4096 .bf16 := fun y => X (ix3 h (y 1) (y 2))

/-- Window 3's block at a grid point is that block of its array. -/
theorem iblkVt (c : Dev nD) (t : Fin cfg1.N) :
    iblk1 V c 3 t = blkVt (V c (Pipeline.arrRef spec1 3)) (headOf t) := by
  funext y
  simp only [blkVt, headOf, blkOf, colOf]
  blk_ext [iblk1, idx1 t]

/-- The block of the array of window 4 that head `h` read. -/
def blkKn (X : FVec Ideal S8x1280x128 .bf16) (h : Fin 8) : FVec Ideal S1x1280x128 .bf16 := fun y => X (ix3 h (y 1) (y 2))

/-- Window 4's block at a grid point is that block of its array. -/
theorem iblkKn (c : Dev nD) (t : Fin cfg1.N) :
    iblk1 V c 4 t = blkKn (V c (Pipeline.arrRef spec1 4)) (headOf t) := by
  funext y
  simp only [blkKn, headOf, blkOf, colOf]
  blk_ext [iblk1, idx1 t]

/-- The block of the array of window 5 that head `h` read. -/
def blkVn (X : FVec Ideal S8x128x1280 .bf16) (h : Fin 8) : FVec Ideal S1x128x1280 .bf16 := fun y => X (ix3 h (y 1) (y 2))

/-- Window 5's block at a grid point is that block of its array. -/
theorem iblkVn (c : Dev nD) (t : Fin cfg1.N) :
    iblk1 V c 5 t = blkVn (V c (Pipeline.arrRef spec1 5)) (headOf t) := by
  funext y
  simp only [blkVn, headOf, blkOf, colOf]
  blk_ext [iblk1, idx1 t]

/-- The block of the array of window 6 that head `h` and block `i` read. -/
def blkO (X : FVec Ideal S8x4352x128 .f32) (h : Fin 8) (i : Fin 17) : FVec Ideal S1x256x128 .f32 := fun y => X (ix3 h (colOf i (y 1)) (y 2))

/-- Window 6's block at a grid point is that block of its array. -/
theorem iblkO (c : Dev nD) (t : Fin cfg1.N) :
    iblk1 V c 6 t = blkO (V c (Pipeline.arrRef spec1 6)) (headOf t) (blkOf t) := by
  funext y
  simp only [blkO, headOf, blkOf, colOf]
  blk_ext [iblk1, idx1 t]

/-- The block of the array of window 7 that head `h` and block `i` read. -/
def blkL (X : FVec Ideal S8x1x4352 .f32) (h : Fin 8) (i : Fin 17) : FVec Ideal S1x1x256 .f32 := fun y => X (ix3 h (y 1) (colOf i (y 2)))

/-- Window 7's block at a grid point is that block of its array. -/
theorem iblkL (c : Dev nD) (t : Fin cfg1.N) :
    iblk1 V c 7 t = blkL (V c (Pipeline.arrRef spec1 7)) (headOf t) (blkOf t) := by
  funext y
  simp only [blkL, headOf, blkOf, colOf]
  blk_ext [iblk1, idx1 t]

end Cert.KernelIdeal.Hand
-- ==== Proof.KArr.lean ====
module
public import proofs.«01_k».proof.Proof.KBlk

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

variable (V : (c : Dev nD) → (b : Ref sig .tc) → Buf (Elt Ideal) ((c : Thread nD τ).loc b))

/-- The prefix call's first result at an index, from the eight arrays it reads. -/
def arrOut (q : FVec Ideal S8x128x4352 .bf16) (m : FVec Ideal S8x8x4352 .f32) (k : FVec Ideal S8x4096x128 .bf16)
    (vt : FVec Ideal S8x128x4096 .bf16) (kn : FVec Ideal S8x1280x128 .bf16) (vn : FVec Ideal S8x128x1280 .bf16)
    (ot : FVec Ideal S8x4352x128 .f32) (lt : FVec Ideal S8x1x4352 .f32) (h : Fin 8) (i : Fin 17) (l : Fin 256) (d : Fin 128) : EReal :=
  rowOut i (blkQ q h i) (blkM m h i) (blkK k h) (blkVt vt h) (blkKn kn h) (blkVn vn h) (blkO ot h i) (blkL lt h i) l d

/-- The prefix call's first result as an array. -/
def arrG (q : FVec Ideal S8x128x4352 .bf16) (m : FVec Ideal S8x8x4352 .f32) (k : FVec Ideal S8x4096x128 .bf16)
    (vt : FVec Ideal S8x128x4096 .bf16) (kn : FVec Ideal S8x1280x128 .bf16) (vn : FVec Ideal S8x128x1280 .bf16)
    (ot : FVec Ideal S8x4352x128 .f32) (lt : FVec Ideal S8x1x4352 .f32) : FVec Ideal S8x4352x128 .bf16 := fun j =>
  arrOut q m k vt kn vn ot lt (j 0) ⟨(j 1 : ℕ) / 256, by have : (j 1 : ℕ) < 4352 := (j 1).isLt; omega⟩
    ⟨(j 1 : ℕ) % 256, Nat.mod_lt _ (by decide)⟩ (j 2)

/-- Elements of the output array at equal indices are equal. -/
theorem arrOut_congr (q : FVec Ideal S8x128x4352 .bf16) (m : FVec Ideal S8x8x4352 .f32) (k : FVec Ideal S8x4096x128 .bf16)
    (vt : FVec Ideal S8x128x4096 .bf16) (kn : FVec Ideal S8x1280x128 .bf16) (vn : FVec Ideal S8x128x1280 .bf16)
    (ot : FVec Ideal S8x4352x128 .f32) (lt : FVec Ideal S8x1x4352 .f32) {h h' : Fin 8} {i i' : Fin 17} {l l' : Fin 256} {d d' : Fin 128}
    (eh : (h : ℕ) = h') (ei : (i : ℕ) = i') (el : (l : ℕ) = l') (ed : (d : ℕ) = d') :
    arrOut q m k vt kn vn ot lt h i l d = arrOut q m k vt kn vn ot lt h' i' l' d' := by
  rw [Fin.ext eh, Fin.ext ei, Fin.ext el, Fin.ext ed]

/-- A row of the output block depends only on the blocks it reads. -/
theorem rowOut_congr (i : Fin 17) {q q' : FVec Ideal S1x128x256 .bf16} {m m' : FVec Ideal S1x8x256 .f32} {k k' : FVec Ideal S1x4096x128 .bf16}
    {vt vt' : FVec Ideal S1x128x4096 .bf16} {kn kn' : FVec Ideal S1x1280x128 .bf16} {vn vn' : FVec Ideal S1x128x1280 .bf16}
    {ot ot' : FVec Ideal S1x256x128 .f32} {lt lt' : FVec Ideal S1x1x256 .f32} (e0 : q = q') (e1 : m = m') (e2 : k = k') (e3 : vt = vt')
    (e4 : kn = kn') (e5 : vn = vn') (e6 : ot = ot') (e7 : lt = lt') (l : Fin 256) (d : Fin 128) :
    rowOut i q m k vt kn vn ot lt l d = rowOut i q' m' k' vt' kn' vn' ot' lt' l d := by
  subst e0 e1 e2 e3 e4 e5 e6 e7; rfl

/-- The prefix call's first result after its run. -/
theorem arr8 (c : Dev nD) : (dat1 V c).arrAt 8 cfg1.N
    = arrG (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7)) := by
  obtain ⟨G, hG⟩ : ∃ G : FVec Ideal S8x4352x128 .bf16, ∀ j, G j = arrG (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7)) j := ⟨_, fun _ => rfl⟩
  refine Eq.trans (b := G) ?_ (funext hG)
  refine (dat1 V c).arrAt_eq_of_covers 8 _ (by decide +kernel) fun t hf y => ?_
  blk_simp
  rw [after1_8]
  idx_vars y
  obtain rfl : y0 = 0 := Subsingleton.elim _ _
  rw [point8 V c t y1 y2, hG]
  refine (rowOut_congr _ (iblkQ V c t) (iblkM V c t) (iblkK V c t) (iblkVt V c t) (iblkKn V c t) (iblkVn V c t) (iblkO V c t) (iblkL V c t) _ _).trans ?_
  unfold arrG
  refine arrOut_congr _ _ _ _ _ _ _ _ ?_ ?_ ?_ ?_
  all_goals (first | blk_simp [idx1 t, headOf, blkOf] | simp only [headOf, blkOf])
  all_goals first | (simp; done) | (dsimp only; omega)
end Cert.KernelIdeal.Hand
-- ==== Proof.KHost.lean ====
module
public import proofs.«01_k».proof.Proof.KDeq
public import proofs.«01_k».proof.Proof.KArr
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

variable (m : (b : Loc nD τ sig) → Buf (Elt Ideal) b) (ρ : Dev nD → PrngReg)

/-- Row arithmetic: the group of sixteen batches a row lies in. -/
theorem row_div (B s e r : ℕ) (hs : s < 6) (he : e < 5) (hr : r < 16) : (480 * B + 80 * s + 16 * e + r) / 480 = B := by omega
/-- Row arithmetic: the position and group member of a row. -/
theorem row_mid (B s e r : ℕ) (hs : s < 6) (he : e < 5) (hr : r < 16) : (480 * B + 80 * s + 16 * e + r) / 16 % 30 = 5 * s + e := by omega
/-- Row arithmetic: the batch of a row inside its group. -/
theorem row_mod (B s e r : ℕ) (hr : r < 16) : (480 * B + 80 * s + 16 * e + r) % 16 = r := by omega
/-- Equal coordinates give equal indices. -/
theorem ix4_congr {n0 n1 n2 n3 : ℕ} {a a' : Fin n0} {b b' : Fin n1} {c c' : Fin n2} {d d' : Fin n3} (ha : a = a') (hb : b = b') (hc : c = c') (hd : d = d') :
    ix4 a b c d = ix4 a' b' c' d' := by subst ha hb hc hd; rfl
/-- Equal coordinates give equal indices. -/
theorem ix5_congr {n0 n1 n2 n3 n4 : ℕ} {a a' : Fin n0} {b b' : Fin n1} {c c' : Fin n2} {d d' : Fin n3} {e e' : Fin n4} (ha : a = a') (hb : b = b') (hc : c = c')
    (hd : d = d') (he : e = e') : ix5 a b c d e = ix5 a' b' c' d' e' := by subst ha hb hc hd he; rfl

/-- The column of batch `b`, position `s` and group member `e` in the row layout of the prefix call. -/
def row (b : Fin 144) (s : Fin 6) (e : Fin 5) : Fin 4352 :=
  ⟨480 * ((b : ℕ) / 16) + 80 * (s : ℕ) + 16 * (e : ℕ) + (b : ℕ) % 16, by omega⟩

/-- The row of the packed new tokens where batch `b` has its token `j`. -/
def newRow (b : Fin 144) (j : Fin 6) : Fin 1280 := ⟨128 * ((b : ℕ) / 16) + 6 * ((b : ℕ) % 16) + (j : ℕ), by omega⟩

/-- The lane of head `h`, group member `e` and coordinate `d` in the result. -/
def lane (h : Fin 8) (e : Fin 5) (d : Fin 128) : Fin 5120 := ⟨640 * (h : ℕ) + 128 * (e : ℕ) + (d : ℕ), by omega⟩

/-- The query array as the prefix call reads it. -/
theorem v3_at (c : Dev nD) (h : Fin 8) (d : Fin 128) (b : Fin 144) (s : Fin 6) (e : Fin 5) :
    (show FVec Ideal S8x128x4352 .bf16 from W12 m ρ c (Proc.devRef .tc main_v3)) (ix3 h d (row b s e))
      = (show FVec Ideal S144x6x40x128 .bf16 from m ((c : Thread nD τ).loc main_arg0)) (ix4 b s ⟨5 * (h : ℕ) + (e : ℕ), by omega⟩ d) := by
  rw [W12_of m ρ c main_v3 (by decide +kernel), W11_of m ρ c main_v3 (by decide +kernel), W10_of m ρ c main_v3 (by decide +kernel), W9_of m ρ c main_v3 (by decide +kernel), W8_of m ρ c main_v3 (by decide +kernel), W7_of m ρ c main_v3 (by decide +kernel), W6_of m ρ c main_v3 (by decide +kernel), W5_of m ρ c main_v3 (by decide +kernel), W4_of m ρ c main_v3 (by decide +kernel), W3_of m ρ c main_v3 (by decide +kernel)]
  simp only [row]
  after_reads_at
  rw [dif_pos (by omega)]
  blk_ext []

/-- The packed new keys as the prefix call reads them. -/
theorem v7_at (c : Dev nD) (h : Fin 8) (d : Fin 128) (b : Fin 144) (j : Fin 6) :
    (show FVec Ideal S8x1280x128 .bf16 from W12 m ρ c (Proc.devRef .tc main_v7)) (ix3 h (newRow b j) d)
      = (show FVec Ideal S144x6x8x128 .bf16 from m ((c : Thread nD τ).loc main_arg1)) (ix4 b j h d) := by
  rw [W12_of m ρ c main_v7 (by decide +kernel), W11_of m ρ c main_v7 (by decide +kernel), W10_of m ρ c main_v7 (by decide +kernel), W9_of m ρ c main_v7 (by decide +kernel), W8_of m ρ c main_v7 (by decide +kernel), W7_of m ρ c main_v7 (by decide +kernel), W6_of m ρ c main_v7 (by decide +kernel)]
  simp only [newRow]
  after_reads_at
  have e1 : (128 * ((b : ℕ) / 16) + 6 * ((b : ℕ) % 16) + (j : ℕ)) / 128 = (b : ℕ) / 16 := by omega
  have e2 : (128 * ((b : ℕ) / 16) + 6 * ((b : ℕ) % 16) + (j : ℕ)) % 128 = 6 * ((b : ℕ) % 16) + (j : ℕ) := by omega
  have e3 : (6 * ((b : ℕ) % 16) + (j : ℕ)) / 6 = (b : ℕ) % 16 := by omega
  have e4 : (6 * ((b : ℕ) % 16) + (j : ℕ)) % 6 = (j : ℕ) := by omega
  rw [dif_pos ⟨by rw [e1]; omega, by rw [e2]; omega⟩]
  refine congrArg (m ((c : Thread nD τ).loc main_arg1)) (ix4_congr (Fin.ext ?_) (Fin.ext ?_) rfl rfl)
  · dsimp only
    rw [e1, e2, e3]; omega
  · dsimp only
    rw [e2, e4]

/-- The packed new values as the prefix call reads them. -/
theorem v11_at (c : Dev nD) (h : Fin 8) (d : Fin 128) (b : Fin 144) (j : Fin 6) :
    (show FVec Ideal S8x128x1280 .bf16 from W12 m ρ c (Proc.devRef .tc main_v11)) (ix3 h d (newRow b j))
      = (show FVec Ideal S144x6x8x128 .bf16 from m ((c : Thread nD τ).loc main_arg2)) (ix4 b j h d) := by
  rw [W12_of m ρ c main_v11 (by decide +kernel), W11_of m ρ c main_v11 (by decide +kernel), W10_of m ρ c main_v11 (by decide +kernel), W9_of m ρ c main_v11 (by decide +kernel), W8_of m ρ c main_v11 (by decide +kernel)]
  simp only [newRow]
  after_reads_at
  have e1 : (128 * ((b : ℕ) / 16) + 6 * ((b : ℕ) % 16) + (j : ℕ)) / 128 = (b : ℕ) / 16 := by omega
  have e2 : (128 * ((b : ℕ) / 16) + 6 * ((b : ℕ) % 16) + (j : ℕ)) % 128 = 6 * ((b : ℕ) % 16) + (j : ℕ) := by omega
  have e3 : (6 * ((b : ℕ) % 16) + (j : ℕ)) / 6 = (b : ℕ) % 16 := by omega
  have e4 : (6 * ((b : ℕ) % 16) + (j : ℕ)) % 6 = (j : ℕ) := by omega
  rw [dif_pos ⟨by rw [e1]; omega, by rw [e2]; omega⟩]
  refine congrArg (m ((c : Thread nD τ).loc main_arg2)) (ix4_congr (Fin.ext ?_) (Fin.ext ?_) rfl rfl)
  · dsimp only
    rw [e1, e2, e3]; omega
  · dsimp only
    rw [e2, e4]

/-- The tail's weighted values as the prefix call reads them. -/
theorem v14_at (c : Dev nD) (h : Fin 8) (d : Fin 128) (b : Fin 144) (s : Fin 6) (e : Fin 5) :
    (show FVec Ideal S8x4352x128 .f32 from W12 m ρ c (Proc.devRef .tc main_v14)) (ix3 h (row b s e) d)
      = (show FVec Ideal S8x9x30x16x128 .f32 from m ((c : Thread nD τ).loc main_arg8)) (ix5 h ⟨(b : ℕ) / 16, by omega⟩ ⟨5 * (s : ℕ) + (e : ℕ), by omega⟩ ⟨(b : ℕ) % 16, by omega⟩ d) := by
  rw [W12_of m ρ c main_v14 (by decide +kernel), W11_of m ρ c main_v14 (by decide +kernel)]
  simp only [row]
  after_reads_at
  have hs : (s : ℕ) < 6 := s.isLt
  have he : (e : ℕ) < 5 := e.isLt
  have hr : (b : ℕ) % 16 < 16 := by omega
  have e1 := row_div ((b : ℕ) / 16) s e ((b : ℕ) % 16) hs he hr
  have e2 := row_mid ((b : ℕ) / 16) s e ((b : ℕ) % 16) hs he hr
  have e3 := row_mod ((b : ℕ) / 16) s e ((b : ℕ) % 16) hr
  rw [dif_pos (by omega)]
  exact (congrFun (W8_args m ρ c main_arg8 (by decide +kernel)) _).trans
    (congrArg (m ((c : Thread nD τ).loc main_arg8)) (ix5_congr rfl (Fin.ext e1) (Fin.ext e2) (Fin.ext e3) rfl))

/-- The tail's weights' sum as the prefix call reads it. -/
theorem v19_at (c : Dev nD) (h : Fin 8) (b : Fin 144) (s : Fin 6) (e : Fin 5) :
    (show FVec Ideal S8x1x4352 .f32 from W12 m ρ c (Proc.devRef .tc main_v19)) (ix3 h 0 (row b s e))
      = (show FVec Ideal S144x2x128 .f32 from m ((c : Thread nD τ).loc main_arg9)) (ix3 b ⟨(32 * (h : ℕ) + 5 * (s : ℕ) + (e : ℕ)) / 128, by omega⟩ ⟨(32 * (h : ℕ) + 5 * (s : ℕ) + (e : ℕ)) % 128, by omega⟩) := by
  simp only [row]
  after_reads_at
  have hs : (s : ℕ) < 6 := s.isLt
  have he : (e : ℕ) < 5 := e.isLt
  have hr : (b : ℕ) % 16 < 16 := by omega
  have e1 := row_div ((b : ℕ) / 16) s e ((b : ℕ) % 16) hs he hr
  have e2 := row_mid ((b : ℕ) / 16) s e ((b : ℕ) % 16) hs he hr
  have e3 := row_mod ((b : ℕ) / 16) s e ((b : ℕ) % 16) hr
  have f1 : (h : ℕ) / 4 = (32 * (h : ℕ) + 5 * (s : ℕ) + (e : ℕ)) / 128 := by omega
  have f2 : (h : ℕ) % 4 * 32 + (5 * (s : ℕ) + (e : ℕ)) = (32 * (h : ℕ) + 5 * (s : ℕ) + (e : ℕ)) % 128 := by omega
  rw [dif_pos (by omega)]
  refine (congrFun (W8_args m ρ c main_arg9 (by decide +kernel)) _).trans
    (congrArg (m ((c : Thread nD τ).loc main_arg9)) (ix3_congr (Fin.ext ?_) (Fin.ext f1) (Fin.ext ?_)))
  · dsimp only
    rw [e1, e3]; omega
  · dsimp only
    rw [e2, f2]

/-- The program's result, from the prefix call's first result. -/
theorem v24_at (c : Dev nD) (b : Fin 144) (s : Fin 6) (h : Fin 8) (e : Fin 5) (d : Fin 128) :
    (show FVec Ideal S144x6x5120 .bf16 from W14 m ρ c (Proc.devRef .tc main_v24)) (ix3 b s (lane h e d))
      = (show FVec Ideal S8x4352x128 .bf16 from W13 m ρ c (Proc.devRef .tc main_v20_0)) (ix3 h (row b s e) d) := by
  simp only [row, lane]
  after_reads_at
  blk_ext []

end Cert.KernelIdeal.Hand
-- ==== Proof.KHost2.lean ====
module
public import proofs.«01_k».proof.Proof.KHost

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

variable (m : (b : Loc nD τ sig) → Buf (Elt Ideal) b) (ρ : Dev nD → PrngReg)

/-- The dequantized keys as the prefix call reads them. -/
theorem v12_0_eq (c : Dev nD) : W12 m ρ c (Proc.devRef .tc main_v12_0) = deqK (m ((c : Thread nD τ).loc main_arg3)) (m ((c : Thread nD τ).loc main_arg5)) := by
  rw [W12_of m ρ c main_v12_0 (by decide +kernel), W11_of m ρ c main_v12_0 (by decide +kernel), W10_of m ρ c main_v12_0 (by decide +kernel), W9_of m ρ c main_v12_0 (by decide +kernel)]
  refine (W8_arr m ρ c 4).trans ((arr4 (V7 m ρ) c).trans ?_)
  exact congrArg₂ deqK (W7_args m ρ c main_arg3 (by decide +kernel)) (W7_args m ρ c main_arg5 (by decide +kernel))

/-- The dequantized values as the prefix call reads them. -/
theorem v12_1_eq (c : Dev nD) : W12 m ρ c (Proc.devRef .tc main_v12_1) = deqV (m ((c : Thread nD τ).loc main_arg4)) (m ((c : Thread nD τ).loc main_arg6)) := by
  rw [W12_of m ρ c main_v12_1 (by decide +kernel), W11_of m ρ c main_v12_1 (by decide +kernel), W10_of m ρ c main_v12_1 (by decide +kernel), W9_of m ρ c main_v12_1 (by decide +kernel)]
  refine (W8_arr m ρ c 5).trans ((arr5 (V7 m ρ) c).trans ?_)
  exact congrArg₂ deqV (W7_args m ρ c main_arg4 (by decide +kernel)) (W7_args m ρ c main_arg6 (by decide +kernel))

/-- The prefix call's first result, from the arrays it reads. -/
theorem v20_eq (c : Dev nD) : W13 m ρ c (Proc.devRef .tc main_v20_0)
    = arrG (W12 m ρ c (Proc.devRef .tc main_v3)) (W12 m ρ c (Proc.devRef .tc main_arg7)) (W12 m ρ c (Proc.devRef .tc main_v12_0))
        (W12 m ρ c (Proc.devRef .tc main_v12_1)) (W12 m ρ c (Proc.devRef .tc main_v7)) (W12 m ρ c (Proc.devRef .tc main_v11))
        (W12 m ρ c (Proc.devRef .tc main_v14)) (W12 m ρ c (Proc.devRef .tc main_v19)) :=
  (W13_arr m ρ c 8).trans (arr8 (V12 m ρ) c)

end Cert.KernelIdeal.Hand
-- ==== Proof.Math.lean ====
module
public import Idealize.ShloMosaic.PureOps.Ideal

@[expose] public section

noncomputable section

open Idealize.ShloMosaic

namespace Cert.Attend

/-- The pattern of `128.0` denotes the real 128. -/
theorem ofBits_128 : Ideal.ofBits .f32 0x43000000#32 = ((128 : ℝ) : EReal) := by
  simp [Ideal.ofBits, Ideal.ieee, -EReal.coe_mul]; norm_num

/-- The reciprocal root of the head dimension. -/
def rs : ℝ := (Real.sqrt 128)⁻¹

/-- The score scale is positive. -/
theorem rs_pos : 0 < rs := inv_pos.mpr (Real.sqrt_pos.mpr (by norm_num))

/-- The reference's scale is the reciprocal root of 128. -/
theorem scale_eq : Ideal.div 1 (Ideal.sqrt (Ideal.ofBits .f32 0x43000000#32)) = ((rs : ℝ) : EReal) := by
  rw [ofBits_128, Ideal.sqrt_coe, if_neg (by norm_num), Ideal.div_coe (Real.sqrt_pos.mpr (by norm_num)).ne', one_mul, one_div, rs]

/-- A power of two at a score times the named constant is the exponential of the scaled score. -/
theorem exp2_eq (x : EReal) : Ideal.exp2 (x * (((Real.sqrt 128)⁻¹ * (Real.log 2)⁻¹ : ℝ) : EReal)) = Ideal.exp (x * ((rs : ℝ) : EReal)) := by
  have hl : 0 < Real.log 2 := Real.log_pos (by norm_num)
  have hc : (0 : ℝ) < (Real.sqrt 128)⁻¹ * (Real.log 2)⁻¹ := mul_pos rs_pos (inv_pos.mpr hl)
  induction x with
  | bot => rw [EReal.bot_mul_coe_of_pos hc, EReal.bot_mul_coe_of_pos rs_pos]; rfl
  | top => rw [EReal.top_mul_coe_of_pos hc, EReal.top_mul_coe_of_pos rs_pos]; rfl
  | coe x =>
    rw [← EReal.coe_mul, ← EReal.coe_mul, Ideal.exp2_coe, Ideal.exp_coe]
    congr 1
    show (2 : ℝ) ^ (x * ((Real.sqrt 128)⁻¹ * (Real.log 2)⁻¹) : ℝ) = _
    rw [Real.rpow_def_of_pos (by norm_num)]
    congr 1
    rw [rs]; field_simp

/-- An exponential is not negative. -/
theorem exp_nonneg (x : EReal) : 0 ≤ Ideal.exp x := by
  induction x with
  | bot => exact le_refl _
  | top => exact le_top
  | coe x => rw [Ideal.exp_coe]; exact_mod_cast (Real.exp_pos x).le

/-- A product distributes over a finite sum when the factor is neither negative nor infinite. -/
theorem sum_mul {ι : Type} (s : Finset ι) (f : ι → EReal) (c : EReal) (h0 : 0 ≤ c) (h1 : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- A quotient by a positive number is the product with a factor that is neither negative nor infinite. -/
theorem div_pos_eq (l : EReal) (hl : 0 < l) : ∃ r : EReal, 0 ≤ r ∧ r ≠ ⊤ ∧ ∀ x, Ideal.div x l = x * r := by
  refine ⟨l⁻¹, ?_, ?_, fun x => by rw [Ideal.div, if_neg hl.ne']⟩
  · exact EReal.inv_nonneg_of_nonneg hl.le
  · exact (EReal.inv_lt_top l).ne

/-- What the reference computes for one output element: the softmax weights of the scores `sp` of the cached keys and `sn` of the
    new ones, shifted by `mx`, normalized with what the tail adds (`lt`), times the values; and what the tail's values add (`ot`). -/
def attend (sp : Fin 4096 → EReal) (sn : Fin 6 → EReal) (mx lt ot : EReal) (vp vs : Fin 4096 → EReal) (vn : Fin 6 → EReal) : EReal :=
  ((∑ p, vp p * (Ideal.div (Ideal.exp (sp p - mx)) ((∑ p, Ideal.exp (sp p - mx)) + lt + ∑ j, Ideal.exp (sn j - mx)) * vs p))
      + Ideal.div ot ((∑ p, Ideal.exp (sp p - mx)) + lt + ∑ j, Ideal.exp (sn j - mx)))
    + ∑ j, vn j * Ideal.div (Ideal.exp (sn j - mx)) ((∑ p, Ideal.exp (sp p - mx)) + lt + ∑ j, Ideal.exp (sn j - mx))

/-- The reference's element depends on its data only through their values. -/
theorem attend_congr {sp sp' : Fin 4096 → EReal} {sn sn' : Fin 6 → EReal} {mx mx' lt lt' ot ot' : EReal} {vp vp' vs vs' : Fin 4096 → EReal} {vn vn' : Fin 6 → EReal}
    (h1 : ∀ p, sp p = sp' p) (h2 : ∀ j, sn j = sn' j) (h3 : mx = mx') (h4 : lt = lt') (h5 : ot = ot') (h6 : ∀ p, vp p = vp' p) (h7 : ∀ p, vs p = vs' p)
    (h8 : ∀ j, vn j = vn' j) : attend sp sn mx lt ot vp vs vn = attend sp' sn' mx' lt' ot' vp' vs' vn' := by
  rw [funext h1, funext h2, h3, h4, h5, funext h6, funext h7, funext h8]

/-- The kernel's weight of a key: a power of two of the key's product with the query, less the shift. -/
def wt (q : Fin 128 → EReal) (sh : EReal) (key : Fin 128 → EReal) : EReal :=
  Ideal.exp2 ((∑ d, key d * q d + sh) * (((Real.sqrt 128)⁻¹ * (Real.log 2)⁻¹ : ℝ) : EReal))

/-- A scaled score less the scaled shift. -/
theorem shift_mul (x : EReal) (μ : ℝ) : (x + ((-μ : ℝ) : EReal)) * ((rs : ℝ) : EReal) = x * ((rs : ℝ) : EReal) - ((μ : ℝ) : EReal) * ((rs : ℝ) : EReal) := by
  rw [EReal.right_distrib_of_nonneg_of_ne_top (by exact_mod_cast rs_pos.le) (EReal.coe_ne_top _), EReal.coe_neg, EReal.neg_mul, ← sub_eq_add_neg]

/-- The weight of a new key is the exponential of its scaled score less the scaled shift. -/
theorem wt_new (q key : Fin 128 → EReal) (μ : ℝ) :
    wt q ((-μ : ℝ) : EReal) key = Ideal.exp ((∑ d, key d * q d) * ((rs : ℝ) : EReal) - ((μ : ℝ) : EReal) * ((rs : ℝ) : EReal)) := by
  rw [wt, exp2_eq, shift_mul]

/-- The weight of a cached key with its scale multiplied in is that of the key itself, the scale taken with the root. -/
theorem wt_pre (q key : Fin 128 → EReal) (s : EReal) (h0 : 0 ≤ s) (h1 : s ≠ ⊤) (μ : ℝ) :
    wt q ((-μ : ℝ) : EReal) (fun d => key d * s)
      = Ideal.exp ((∑ d, key d * q d) * (s * ((rs : ℝ) : EReal)) - ((μ : ℝ) : EReal) * ((rs : ℝ) : EReal)) := by
  rw [wt_new]
  congr 2
  rw [← mul_assoc, sum_mul _ _ s h0 h1]
  congr 1
  exact Finset.sum_congr rfl fun d _ => mul_right_comm _ _ _

/-- Normalizing the weighted sum by the reciprocal of the weights' sum is normalizing each weight. -/
theorem norm_eq (x : Fin 4096 → EReal) (g : Fin 6 → EReal) (hx : ∀ p, 0 ≤ x p) (hg : ∀ j, 0 ≤ g j) (lt ot : EReal) (hlt : 0 < lt)
    (vp vs : Fin 4096 → EReal) (vn : Fin 6 → EReal) :
    (((∑ j, vn j * g j) + ∑ p, (vp p * vs p) * x p) + ot) * Ideal.div 1 (((∑ j, g j) + ∑ p, x p) + lt)
      = ((∑ p, vp p * (Ideal.div (x p) ((∑ p, x p) + lt + ∑ j, g j) * vs p)) + Ideal.div ot ((∑ p, x p) + lt + ∑ j, g j))
        + ∑ j, vn j * Ideal.div (g j) ((∑ p, x p) + lt + ∑ j, g j) := by
  have hl : ((∑ j, g j) + ∑ p, x p) + lt = (∑ p, x p) + lt + ∑ j, g j := by
    rw [add_comm (∑ j, g j), add_assoc, add_comm (∑ j, g j), add_assoc]
  rw [hl]
  have h0 : 0 < (∑ p, x p) + lt + ∑ j, g j := by
    have h1 : 0 ≤ ∑ p, x p := Finset.sum_nonneg fun p _ => hx p
    have h2 : 0 ≤ ∑ j, g j := Finset.sum_nonneg fun j _ => hg j
    refine lt_of_lt_of_le hlt ?_
    calc lt = 0 + lt + 0 := by rw [zero_add, add_zero]
      _ ≤ _ := add_le_add (add_le_add h1 le_rfl) h2
  obtain ⟨r, hr0, hr1, hr⟩ := div_pos_eq _ h0
  simp only [hr]
  rw [one_mul, EReal.right_distrib_of_nonneg_of_ne_top hr0 hr1, EReal.right_distrib_of_nonneg_of_ne_top hr0 hr1, sum_mul _ _ r hr0 hr1, sum_mul _ _ r hr0 hr1]
  rw [add_comm (∑ j, vn j * g j * r), add_assoc, add_comm (∑ j, vn j * g j * r), ← add_assoc]
  refine congrArg₂ (· + ·) (congrArg₂ (· + ·) (Finset.sum_congr rfl fun p _ => ?_) rfl) (Finset.sum_congr rfl fun j _ => mul_assoc _ _ _)
  rw [mul_assoc (vp p) (vs p) (x p), mul_assoc (vp p), mul_comm (vs p) (x p), mul_right_comm (x p)]

/-- One output element: the kernel's weighted sum times the reciprocal of its weights is the reference's attention. -/
theorem kernel_eq (q : Fin 128 → EReal) (k : Fin 4096 → Fin 128 → EReal) (ks : Fin 4096 → EReal) (kn : Fin 6 → Fin 128 → EReal) (μ : ℝ) (lt ot : EReal)
    (vp vs : Fin 4096 → EReal) (vn : Fin 6 → EReal) (vis : Fin 6 → Prop) [DecidablePred vis]
    (hks : ∀ p, 0 ≤ ks p ∧ ks p < ⊤) (hlt : 0 < lt) :
    (((∑ j, if vis j then vn j * wt q ((-μ : ℝ) : EReal) (kn j) else 0) + ∑ p, (vp p * vs p) * wt q ((-μ : ℝ) : EReal) (fun d => k p d * ks p)) + ot)
        * Ideal.div 1 (((∑ j, if vis j then wt q ((-μ : ℝ) : EReal) (kn j) else 0) + ∑ p, wt q ((-μ : ℝ) : EReal) (fun d => k p d * ks p)) + lt)
      = attend (fun p => (∑ d, k p d * q d) * (ks p * ((rs : ℝ) : EReal))) (fun j => if vis j then (∑ d, kn j d * q d) * ((rs : ℝ) : EReal) else ⊥)
          (((μ : ℝ) : EReal) * ((rs : ℝ) : EReal)) lt ot vp vs vn := by
  have hp : ∀ p, wt q ((-μ : ℝ) : EReal) (fun d => k p d * ks p)
      = Ideal.exp ((∑ d, k p d * q d) * (ks p * ((rs : ℝ) : EReal)) - ((μ : ℝ) : EReal) * ((rs : ℝ) : EReal)) :=
    fun p => wt_pre q (k p) (ks p) (hks p).1 (hks p).2.ne μ
  have hn : ∀ j, (if vis j then wt q ((-μ : ℝ) : EReal) (kn j) else 0)
      = Ideal.exp ((if vis j then (∑ d, kn j d * q d) * ((rs : ℝ) : EReal) else ⊥) - ((μ : ℝ) : EReal) * ((rs : ℝ) : EReal)) := by
    intro j
    split
    · exact wt_new q (kn j) μ
    · rw [← EReal.coe_mul, EReal.bot_sub]; rfl
  have hv : ∀ j, (if vis j then vn j * wt q ((-μ : ℝ) : EReal) (kn j) else 0) = vn j * (if vis j then wt q ((-μ : ℝ) : EReal) (kn j) else 0) := by
    intro j; split <;> simp
  simp only [hv, hn, hp]
  unfold attend
  exact norm_eq _ _ (fun p => exp_nonneg _) (fun j => exp_nonneg _) lt ot hlt vp vs vn

end Cert.Attend
-- ==== Proof.KVal.lean ====
module
public import proofs.«01_k».proof.Proof.KHost2
public import proofs.«01_k».proof.Proof.Math

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

/-- The block of rows that holds a row. -/
def rowBlk (b : Fin 144) (s : Fin 6) (e : Fin 5) : Fin 17 := ⟨(row b s e : ℕ) / 256, by have := (row b s e).isLt; omega⟩
/-- The lane of a row in its block. -/
def rowLane (b : Fin 144) (s : Fin 6) (e : Fin 5) : Fin 256 := ⟨(row b s e : ℕ) % 256, by omega⟩

/-- A block and a lane give back the row they come from. -/
theorem colOf_row (b : Fin 144) (s : Fin 6) (e : Fin 5) : colOf (rowBlk b s e) (rowLane b s e) = row b s e := by
  apply Fin.ext
  show 256 * ((row b s e : ℕ) / 256) + (row b s e : ℕ) % 256 = _
  omega

/-- A window position in numbers: the quotients of key `j` of batch `t` in half `a` of the window. -/
theorem win_aux (r a t j s : ℕ) (ht : t < 16) (ha : a ≤ 1) (hj : j ≤ s) (hs : s < 6) (hr : r = 128 * a + (6 * t + j)) :
    (r % 128 < 96 ∧ r / 128 * 128 + r % 128 / 6 = a * 128 + t) ∧ r % 128 % 6 ≤ s := by
  have e1 : r / 128 = a := by omega
  have e2 : r % 128 = 6 * t + j := by omega
  rw [e1, e2]
  refine ⟨⟨by omega, by omega⟩, by omega⟩

/-- A window key is visible exactly when it is a new token of the row's own batch, at or before the row's position: in numbers. -/
theorem win_iff (i l r B t s w : ℕ) (hr : r < 256) (hw : 256 * i / 480 = w) (h1 : (256 * i + l) / 480 = B) (h2 : (256 * i + l) % 480 % 16 = t)
    (h3 : (256 * i + l) % 480 / 80 = s) (ht : t < 16) (hB : B = w ∨ B = w + 1) (hs : s < 6) :
    ((r % 128 < 96 ∧ r / 128 * 128 + r % 128 / 6 = ((256 * i + l) / 480 - 256 * i / 480) * 128 + (256 * i + l) % 480 % 16) ∧ r % 128 % 6 ≤ (256 * i + l) % 480 / 80)
      ↔ ∃ j, j ≤ s ∧ r = 128 * (B - w) + 6 * t + j := by
  rw [hw, h1, h2, h3]
  constructor
  · rintro ⟨⟨g1, g2⟩, g3⟩
    refine ⟨r % 128 % 6, g3, ?_⟩
    have g4 : r / 128 ≤ 1 := by omega
    have g5 : r % 128 / 6 < 16 := by omega
    rcases hB with rfl | rfl
    · have : r / 128 = 0 := by omega
      omega
    · have : r / 128 = 1 := by omega
      omega
  · rintro ⟨j, hj, hr'⟩
    rcases hB with rfl | rfl
    · exact (by rw [Nat.sub_self]; exact win_aux r 0 t j s ht (by omega) (by omega) hs (by omega))
    · exact (by rw [Nat.add_sub_cancel_left]; exact win_aux r 1 t j s ht (by omega) (by omega) hs (by omega))

/-- The numbers of a row: its block, lane, group, position and batch inside the group. -/
theorem row_facts (b : Fin 144) (s : Fin 6) (e : Fin 5) :
    (256 * (rowBlk b s e : ℕ) + (rowLane b s e : ℕ)) / 480 = (b : ℕ) / 16 ∧ (256 * (rowBlk b s e : ℕ) + (rowLane b s e : ℕ)) % 480 % 16 = (b : ℕ) % 16
      ∧ (256 * (rowBlk b s e : ℕ) + (rowLane b s e : ℕ)) % 480 / 80 = (s : ℕ)
      ∧ ((b : ℕ) / 16 = 256 * (rowBlk b s e : ℕ) / 480 ∨ (b : ℕ) / 16 = 256 * (rowBlk b s e : ℕ) / 480 + 1) := by
  have h0 : 256 * (rowBlk b s e : ℕ) + (rowLane b s e : ℕ) = (row b s e : ℕ) := congrArg Fin.val (colOf_row b s e)
  have hl : (rowLane b s e : ℕ) < 256 := (rowLane b s e).isLt
  have h1 : (row b s e : ℕ) = 480 * ((b : ℕ) / 16) + 80 * (s : ℕ) + 16 * (e : ℕ) + (b : ℕ) % 16 := rfl
  have hs : (s : ℕ) < 6 := s.isLt
  have he : (e : ℕ) < 5 := e.isLt
  have ht : (b : ℕ) % 16 < 16 := by omega
  rw [h0]
  generalize (b : ℕ) / 16 = B at *
  generalize (b : ℕ) % 16 = t at *
  generalize (rowBlk b s e : ℕ) = i at *
  generalize (rowLane b s e : ℕ) = l at *
  generalize (row b s e : ℕ) = R at *
  generalize (s : ℕ) = s at *
  generalize (e : ℕ) = e at *
  have g1 : R / 480 = B := by omega
  have g2 : R % 480 = 80 * s + 16 * e + t := by omega
  refine ⟨g1, by rw [g2]; omega, by rw [g2]; omega, by omega⟩

/-- A sum over the window of what its visible keys contribute is the sum over the row's own visible new tokens. -/
theorem win_sum (b : Fin 144) (s : Fin 6) (e : Fin 5) (A : Fin 1280 → EReal) :
    (∑ r : Fin 256, if sees (rowBlk b s e) r (rowLane b s e) then A (wpos (rowBlk b s e) r) else 0) = ∑ j : Fin 6, if j ≤ s then A (newRow b j) else 0 := by
  obtain ⟨h1, h2, h3, h4⟩ := row_facts b s e
  have ht : (b : ℕ) % 16 < 16 := by omega
  have hiff := fun r : Fin 256 => win_iff (rowBlk b s e) (rowLane b s e) r _ _ _ _ r.isLt rfl h1 h2 h3 ht h4 s.isLt
  have hB : (b : ℕ) / 16 - 256 * (rowBlk b s e : ℕ) / 480 ≤ 1 := by omega
  let f : Fin 6 → Fin 256 := fun j => ⟨128 * ((b : ℕ) / 16 - 256 * (rowBlk b s e : ℕ) / 480) + 6 * ((b : ℕ) % 16) + (j : ℕ), by have := j.isLt; omega⟩
  have hf : ∀ j, (f j : ℕ) = 128 * ((b : ℕ) / 16 - 256 * (rowBlk b s e : ℕ) / 480) + 6 * ((b : ℕ) % 16) + (j : ℕ) := fun j => rfl
  symm
  refine Fintype.sum_of_injective f (fun j j' h => ?_) _ _ (fun r hr => ?_) (fun j => ?_)
  · have := congrArg Fin.val h
    rw [hf, hf] at this
    exact Fin.ext (by omega)
  · rw [if_neg]
    intro hs
    obtain ⟨j, hj, hj'⟩ := (hiff r).mp hs
    exact hr ⟨⟨j, by have := s.isLt; omega⟩, Fin.ext hj'.symm⟩
  · have hw : wpos (rowBlk b s e) (f j) = newRow b j := by
      apply Fin.ext
      show 128 * (256 * (rowBlk b s e : ℕ) / 480) + (f j : ℕ) = 128 * ((b : ℕ) / 16) + 6 * ((b : ℕ) % 16) + (j : ℕ)
      rw [hf]; omega
    have hc : sees (rowBlk b s e) (f j) (rowLane b s e) ↔ j ≤ s := by
      refine (hiff (f j)).trans ⟨?_, fun hj => ⟨j, hj, hf j⟩⟩
      rintro ⟨j', hj', he'⟩
      rw [hf] at he'
      show (j : ℕ) ≤ (s : ℕ)
      omega
    rw [hw]
    simp only [hc]

/-- The kernel's named constant, by its table. -/
theorem named_c : Named.named (F := Ideal) κ "c" (φ := .f32) 0x3E0293EE#32 = (((Real.sqrt 128)⁻¹ * (Real.log 2)⁻¹ : ℝ) : EReal) :=
  IdealRules.named_const.ideal_named_scalar _ _ _ _ rfl

/-- A key's weight for a row, over the arrays. -/
theorem wtk_row (q : FVec Ideal S8x128x4352 .bf16) (mm : FVec Ideal S8x8x4352 .f32) (h : Fin 8) (b : Fin 144) (s : Fin 6) (e : Fin 5) (key : Fin 128 → EReal)
    (q' : Fin 128 → EReal) (μ : ℝ) (hq : ∀ x, q (ix3 h x (row b s e)) = q' x) (hμ : mm (ix3 h 0 (row b s e)) = ((μ : ℝ) : EReal)) :
    wtk (blkQ q h (rowBlk b s e)) (blkM mm h (rowBlk b s e)) key (rowLane b s e) = Attend.wt q' ((-μ : ℝ) : EReal) key := by
  have e1 : ∀ x : Fin 128, blkQ q h (rowBlk b s e) (ix3 0 x (rowLane b s e)) = q' x := fun x =>
    (congrArg q (ix3_congr rfl rfl (colOf_row b s e))).trans (hq x)
  have e2 : blkM mm h (rowBlk b s e) (ix3 0 0 (rowLane b s e)) = ((μ : ℝ) : EReal) :=
    (congrArg mm (ix3_congr rfl rfl (colOf_row b s e))).trans hμ
  unfold wtk Attend.wt
  rw [e2, limbs_coe, named_c]
  simp only [e1]
  rfl

/-- One element of the prefix call's result is the reference's attention, in terms of what the arrays it reads hold. -/
theorem arrG_at (q : FVec Ideal S8x128x4352 .bf16) (mm : FVec Ideal S8x8x4352 .f32) (k : FVec Ideal S8x4096x128 .bf16) (vt : FVec Ideal S8x128x4096 .bf16)
    (kn : FVec Ideal S8x1280x128 .bf16) (vn : FVec Ideal S8x128x1280 .bf16) (ot : FVec Ideal S8x4352x128 .f32) (lt : FVec Ideal S8x1x4352 .f32)
    (b : Fin 144) (s : Fin 6) (h : Fin 8) (e : Fin 5) (d : Fin 128)
    (q' : Fin 128 → EReal) (μ : ℝ) (kk : Fin 4096 → Fin 128 → EReal) (ks vp vs : Fin 4096 → EReal) (kn' : Fin 6 → Fin 128 → EReal) (vn' : Fin 6 → EReal) (ot' lt' : EReal)
    (hq : ∀ x, q (ix3 h x (row b s e)) = q' x) (hμ : mm (ix3 h 0 (row b s e)) = ((μ : ℝ) : EReal))
    (hk : ∀ p x, k (ix3 h p x) = kk p x * ks p) (hv : ∀ p, vt (ix3 h d p) = vp p * vs p)
    (hkn : ∀ j x, kn (ix3 h (newRow b j) x) = kn' j x) (hvn : ∀ j, vn (ix3 h d (newRow b j)) = vn' j)
    (hot : ot (ix3 h (row b s e) d) = ot') (hlt : lt (ix3 h 0 (row b s e)) = lt') (hks : ∀ p, 0 ≤ ks p ∧ ks p < ⊤) (hl : 0 < lt') :
    arrG q mm k vt kn vn ot lt (ix3 h (row b s e) d)
      = Attend.attend (fun p => (∑ x, kk p x * q' x) * (ks p * ((Attend.rs : ℝ) : EReal)))
          (fun j => if j ≤ s then (∑ x, kn' j x * q' x) * ((Attend.rs : ℝ) : EReal) else ⊥)
          (((μ : ℝ) : EReal) * ((Attend.rs : ℝ) : EReal)) lt' ot' vp vs vn' := by
  rw [← Attend.kernel_eq q' kk ks kn' μ lt' ot' vp vs vn' (fun j => j ≤ s) hks hl]
  show rowOut (rowBlk b s e) (blkQ q h (rowBlk b s e)) (blkM mm h (rowBlk b s e)) (blkK k h) (blkVt vt h) (blkKn kn h) (blkVn vn h) (blkO ot h (rowBlk b s e))
    (blkL lt h (rowBlk b s e)) (rowLane b s e) d = _
  have w1 := fun key => wtk_row q mm h b s e key q' μ hq hμ
  have e1 : ∀ p : Fin 4096, (fun d' : Fin 128 => blkK k h (ix3 0 p d')) = fun x => kk p x * ks p := fun p => funext fun x => hk p x
  have e2 : ∀ p : Fin 4096, blkVt vt h (ix3 0 d p) = vp p * vs p := hv
  have e3 : blkO ot h (rowBlk b s e) (ix3 0 (rowLane b s e) d) = ot' := (congrArg ot (ix3_congr rfl (colOf_row b s e) rfl)).trans hot
  have e4 : blkL lt h (rowBlk b s e) (ix3 0 0 (rowLane b s e)) = lt' := (congrArg lt (ix3_congr rfl rfl (colOf_row b s e))).trans hlt
  have g1 : (∑ r : Fin 256, wwin (rowBlk b s e) (blkQ q h (rowBlk b s e)) (blkM mm h (rowBlk b s e)) (blkKn kn h) r (rowLane b s e))
      = ∑ j : Fin 6, if j ≤ s then Attend.wt q' ((-μ : ℝ) : EReal) (kn' j) else 0 := by
    refine Eq.trans (Finset.sum_congr rfl fun r _ => ?_) ((win_sum b s e fun w => Attend.wt q' ((-μ : ℝ) : EReal) (fun x => kn (ix3 h w x))).trans
      (Finset.sum_congr rfl fun j _ => ?_))
    · unfold wwin
      rw [w1]; rfl
    · rw [show (fun x => kn (ix3 h (newRow b j) x)) = kn' j from funext fun x => hkn j x]
  have g2 : (∑ r : Fin 256, blkVn vn h (ix3 0 d (wpos (rowBlk b s e) r)) * wwin (rowBlk b s e) (blkQ q h (rowBlk b s e)) (blkM mm h (rowBlk b s e)) (blkKn kn h) r (rowLane b s e))
      = ∑ j : Fin 6, if j ≤ s then vn' j * Attend.wt q' ((-μ : ℝ) : EReal) (kn' j) else 0 := by
    refine Eq.trans (Finset.sum_congr rfl fun r _ => ?_) ((win_sum b s e fun w => vn (ix3 h d w) * Attend.wt q' ((-μ : ℝ) : EReal) (fun x => kn (ix3 h w x))).trans
      (Finset.sum_congr rfl fun j _ => ?_))
    · unfold wwin
      rw [w1, mul_ite, mul_zero]; rfl
    · rw [show (fun x => kn (ix3 h (newRow b j) x)) = kn' j from funext fun x => hkn j x, hvn]
  unfold rowOut
  simp only [w1, e1, e2]
  rw [e3, e4, g1, g2]

end Cert.KernelIdeal.Hand
-- ==== Proof.KRun.lean ====
module
public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The kernel's run with its result named: from any memory with zero counters every weakly fair execution ends with
    the result buffer at the contents that the fold through the host lines and the two regions gives (`W14`), and with the
    argument arrays as launched. -/
theorem run : θ_run defs (onTc (τ := τ) (main (F := F))) ⟨m, fun _ => 0, ρ⟩ (fun r => ∀ c : Dev nD,
      r.2.mem ((c.tc : Thread nD τ).loc main_v24) = W14 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => fun c =>
      ⟨h c _ (mem_uc main_v24 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Hand
-- ==== Proof.RRun.lean ====
module
public import proofs.«01_k».proof.Proof.Gen.ReferenceIdeal.Frame
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Hand
open Cert.ReferenceIdeal Cert.ReferenceIdeal.Gen

variable (m : (b : Loc nD τ sig) → Buf (Elt Ideal) b) (ρ : Dev nD → PrngReg)

/-- The buffers when the widening call has ended. -/
def R0 (c : Dev nD) : Valuation τ sig (Elt Ideal) := Pipeline.withArrays spec0 c (V0 m c) fun w => (dats m 0 c).arrAt w cfg0.N
/-- The buffers before the causal mask is applied. -/
def R1 (c : Dev nD) : Valuation τ sig (Elt Ideal) := StableHlo.after hostOps1 (R0 m c)
/-- The buffers once the causal mask is applied. -/
def R2 (c : Dev nD) : Valuation τ sig (Elt Ideal) := StableHlo.after hostOps1_1 (R1 m c)
/-- The buffers at the end of the reference. -/
def R3 (c : Dev nD) : Valuation τ sig (Elt Ideal) := StableHlo.after hostOps1_2 (R2 m c)

/-- What the lines after the call leave, as three stretches of lines one after the other. -/
theorem tail_eq (c : Dev nD) (b : Ref sig .tc) :
    Pipeline.afterTail₀ cfgs (dats m) 0 (V0 m) [hostOps1, hostOps1_1, hostOps1_2] c b = R3 m c (Proc.devRef .tc b) := by
  unfold Pipeline.afterTail₀ R3 R2 R1 R0
  rw [List.flatten_cons, List.flatten_cons, List.flatten_cons, List.flatten_nil, List.append_nil, StableHlo.after_append, StableHlo.after_append]

/-- Every run of the reference ends with its result as the last stretch of lines leaves it, and its arguments unchanged. -/
theorem run : θ_run defs (onTc (τ := τ) (main (F := Ideal))) ⟨m, fun _ => 0, ρ⟩ (fun r => ∀ c : Dev nD,
      r.2.mem ((c.tc : Thread nD τ).loc main_v73) = R3 m c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun _ h c => ⟨?_, h.2 c⟩) (θ_run_and (run_main m ρ) (unchanged m ρ))
  exact ((h.1 c).2 main_v73 (Pipeline.mem_restRefs_of main_v73 (by decide) (by decide))).trans (tail_eq m c main_v73)

/-- The block index of the widening call's windows. -/
theorem idx0 : ∀ t : Fin cfg0.N, win0_0.index t = ![0, 0, 0] ∧ win0_1.index t = ![0, 0, 0] ∧ win0_2.index t = ![0, 0, 0]
    ∧ win0_3.index t = ![0, 0, 0] :=
  (by decide +kernel : ∀ t : Fin grid0.N, _)

/-- The widened keys are the keys. -/
theorem out2_at (x0 x1 : Vec Ideal S4096x8x128 .fp8e4m3) (r : Fin 4096) (h : Fin 8) (d : Fin 128) :
    out0_2 x0 x1 (ix3 r h d) = (show FVec Ideal S4096x8x128 .fp8e4m3 from x0) (ix3 r h d) := by
  unfold out0_2
  canon_tiles x hh
  all_goals (pointwise [k0_pay1]; change (r : ℕ) = _ at hh0; change (h : ℕ) = _ at hh1; change (d : ℕ) = _ at hh2; blk_point [] <;> simp <;> omega)

/-- The widened values are the values. -/
theorem out3_at (x0 x1 : Vec Ideal S4096x8x128 .fp8e4m3) (r : Fin 4096) (h : Fin 8) (d : Fin 128) :
    out0_3 x0 x1 (ix3 r h d) = (show FVec Ideal S4096x8x128 .fp8e4m3 from x1) (ix3 r h d) := by
  unfold out0_3
  canon_tiles x hh
  all_goals (pointwise [k0_pay2]; change (r : ℕ) = _ at hh0; change (h : ℕ) = _ at hh1; change (d : ℕ) = _ at hh2; blk_point [] <;> simp <;> omega)

/-- The widening call leaves the keys in its first result. -/
theorem arr2 (c : Dev nD) : (show FVec Ideal S4096x8x128 .bf16 from (dats m 0 c).arrAt 2 cfg0.N)
    = (show FVec Ideal S4096x8x128 .fp8e4m3 from V m c main_arg3) := by
  refine (dats m 0 c).arrAt_eq_of_covers 2 _ (by decide +kernel) fun t hf y => ?_
  blk_simp
  rw [after0_2]
  idx_vars y
  refine (out2_at _ _ _ _ _).trans ?_
  blk_point [iblk, idx0 t]

/-- The widening call leaves the values in its second result. -/
theorem arr3 (c : Dev nD) : (show FVec Ideal S4096x8x128 .bf16 from (dats m 0 c).arrAt 3 cfg0.N)
    = (show FVec Ideal S4096x8x128 .fp8e4m3 from V m c main_arg4) := by
  refine (dats m 0 c).arrAt_eq_of_covers 3 _ (by decide +kernel) fun t hf y => ?_
  blk_simp
  rw [after0_3]
  idx_vars y
  refine (out3_at _ _ _ _ _).trans ?_
  blk_point [iblk, idx0 t]
end Cert.ReferenceIdeal.Hand
-- ==== Proof.RVal.lean ====
module
public import proofs.«01_k».proof.Proof.RRun
public import proofs.«01_k».proof.Proof.Math

@[expose] public section

set_option maxRecDepth 16384

noncomputable section

open Idealize.ShloMosaic Idealize.ShloMosaic.TcCoe Idealize.SL.Sem
open Idealize.ShloMosaic.Pipeline (Dat)

namespace Cert.ReferenceIdeal.Hand
open Cert.ReferenceIdeal Cert.ReferenceIdeal.Gen

variable (m : (b : Loc nD τ sig) → Buf (Elt Ideal) b)

/-- Equal coordinates give equal indices. -/
theorem ix5_congr {n0 n1 n2 n3 n4 : ℕ} {a a' : Fin n0} {b b' : Fin n1} {c c' : Fin n2} {d d' : Fin n3} {e e' : Fin n4} (ha : a = a') (hb : b = b') (hc : c = c')
    (hd : d = d') (he : e = e') : ix5 a b c d e = ix5 a' b' c' d' e' := by subst ha hb hc hd he; rfl
/-- Equal coordinates give equal indices. -/
theorem ix4_congr {n0 n1 n2 n3 : ℕ} {a a' : Fin n0} {b b' : Fin n1} {c c' : Fin n2} {d d' : Fin n3} (ha : a = a') (hb : b = b') (hc : c = c') (hd : d = d') :
    ix4 a b c d = ix4 a' b' c' d' := by subst ha hb hc hd; rfl
/-- Equal coordinates give equal indices. -/
theorem ix3_congr {n0 n1 n2 : ℕ} {a a' : Fin n0} {b b' : Fin n1} {c c' : Fin n2} (ha : a = a') (hb : b = b') (hc : c = c') :
    ix3 a b c = ix3 a' b' c' := by subst ha hb hc; rfl

/-- One element of the result from the program's ten arguments, at batch `b`, position `s`, head `h`, group member `e` and coordinate `d`. -/
def outOf (a0 : FVec Ideal S144x6x40x128 .bf16) (a1 a2 : FVec Ideal S144x6x8x128 .bf16) (a3 a4 : FVec Ideal S4096x8x128 .fp8e4m3) (a5 a6 : FVec Ideal S4096x8 .f32)
    (a7 : FVec Ideal S8x8x4352 .f32) (a8 : FVec Ideal S8x9x30x16x128 .f32) (a9 : FVec Ideal S144x2x128 .f32)
    (b : Fin 144) (s : Fin 6) (h : Fin 8) (e : Fin 5) (d : Fin 128) : EReal :=
  Attend.attend (fun p => (∑ x : Fin 128, a3 (ix3 p h x) * a0 (ix4 b s ⟨5 * (h : ℕ) + (e : ℕ), by omega⟩ x)) * (a5 (ix2 p h) * ((Attend.rs : ℝ) : EReal)))
    (fun j => if j ≤ s then (∑ x : Fin 128, a1 (ix4 b j h x) * a0 (ix4 b s ⟨5 * (h : ℕ) + (e : ℕ), by omega⟩ x)) * ((Attend.rs : ℝ) : EReal) else ⊥)
    (a7 (ix3 h 0 ⟨480 * ((b : ℕ) / 16) + 80 * (s : ℕ) + 16 * (e : ℕ) + (b : ℕ) % 16, by omega⟩) * ((Attend.rs : ℝ) : EReal))
    (a9 (ix3 b ⟨(32 * (h : ℕ) + 5 * (s : ℕ) + (e : ℕ)) / 128, by omega⟩ ⟨(32 * (h : ℕ) + 5 * (s : ℕ) + (e : ℕ)) % 128, by omega⟩))
    (a8 (ix5 h ⟨(b : ℕ) / 16, by omega⟩ ⟨5 * (s : ℕ) + (e : ℕ), by omega⟩ ⟨(b : ℕ) % 16, by omega⟩ d))
    (fun p => a4 (ix3 p h d)) (fun p => a6 (ix2 p h)) (fun j => a2 (ix4 b j h d))

/-- The last stretch of lines: softmax and weighted sums, from the scores, shifts, tails and values before it. -/
def lastOf (X : Valuation τ sig (Elt Ideal)) (b : Fin 144) (s : Fin 6) (h : Fin 8) (e : Fin 5) (d : Fin 128) : EReal :=
  Attend.attend (fun p => (show FVec Ideal S144x6x8x5x4096 .f32 from X (Proc.devRef .tc main_v27)) (ix5 b s h e p))
    (fun j => (show FVec Ideal S144x6x8x5x6 .f32 from X (Proc.devRef .tc main_v40)) (ix5 b s h e j))
    ((show FVec Ideal S144x6x8x5x1 .f32 from X (Proc.devRef .tc main_v9)) (ix5 b s h e 0))
    ((show FVec Ideal S144x6x8x5x1 .f32 from X (Proc.devRef .tc main_v17)) (ix5 b s h e 0))
    ((show FVec Ideal S144x6x8x5x128 .f32 from X (Proc.devRef .tc main_v12)) (ix5 b s h e d))
    (fun p => (show FVec Ideal S4096x8x128 .bf16 from X (Proc.devRef .tc main_v18_1)) (ix3 p h d))
    (fun p => (show FVec Ideal S4096x8 .f32 from X (Proc.devRef .tc main_arg6)) (ix2 p h))
    (fun j => (show FVec Ideal S144x6x8x128 .bf16 from X (Proc.devRef .tc main_arg2)) (ix4 b j h d))

/-- The result at a lane of the layout is the last stretch's value there. -/
theorem v73_at (X : Valuation τ sig (Elt Ideal)) (b : Fin 144) (s : Fin 6) (h : Fin 8) (e : Fin 5) (d : Fin 128) :
    (show FVec Ideal S144x6x5120 .bf16 from StableHlo.after hostOps1_2 X (Proc.devRef .tc main_v73)) (ix3 b s ⟨640 * (h : ℕ) + 128 * (e : ℕ) + (d : ℕ), by omega⟩)
      = lastOf X b s h e d := by
  have e1 : (640 * (h : ℕ) + 128 * (e : ℕ) + (d : ℕ)) / 640 = (h : ℕ) := by omega
  have e2 : (640 * (h : ℕ) + 128 * (e : ℕ) + (d : ℕ)) / 128 % 5 = (e : ℕ) := by omega
  have e3 : (640 * (h : ℕ) + 128 * (e : ℕ) + (d : ℕ)) % 128 = (d : ℕ) := by omega
  after_reads_at
  have f1 : (⟨(640 * (h : ℕ) + 128 * (e : ℕ) + (d : ℕ)) / 640, by omega⟩ : Fin 8) = h := Fin.ext e1
  have f2 : (⟨(640 * (h : ℕ) + 128 * (e : ℕ) + (d : ℕ)) / 128 % 5, by omega⟩ : Fin 5) = e := Fin.ext e2
  have f3 : (⟨(640 * (h : ℕ) + 128 * (e : ℕ) + (d : ℕ)) % 128, by omega⟩ : Fin 128) = d := Fin.ext e3
  simp only [f1, f2, f3]
  rfl

/-- The causal mask's selection. -/
theorem v40_at (X : Valuation τ sig (Elt Ideal)) (b : Fin 144) (s : Fin 6) (h : Fin 8) (e : Fin 5) (j : Fin 6) :
    (show FVec Ideal S144x6x8x5x6 .f32 from StableHlo.after hostOps1_1 X (Proc.devRef .tc main_v40)) (ix5 b s h e j)
      = Scalar.select ((show IVec S1x6x1x1x6 1 from X (Proc.devRef .tc main_v39)) (ix5 0 s 0 0 j)) ((show FVec Ideal S144x6x8x5x6 .f32 from X (Proc.devRef .tc main_v31)) (ix5 b s h e j))
        ((show FVec Ideal S_ .f32 from X (Proc.devRef .tc main_cst_1)) ix0) := by
  after_reads_at
  rfl

/-- The causal mask: a position sees the new tokens up to its own. -/
theorem v39_at (X : Valuation τ sig (Elt Ideal)) (s : Fin 6) (j : Fin 6) :
    (show IVec S1x6x1x1x6 1 from StableHlo.after hostOps1 X (Proc.devRef .tc main_v39)) (ix5 0 s 0 0 j) = if j ≤ s then 1#1 else 0#1 := by
  after_reads_at
  revert s j
  decide +kernel

/-- What the mask puts in place of a hidden score. -/
theorem cst1_at (X : Valuation τ sig (Elt Ideal)) :
    (show FVec Ideal S_ .f32 from StableHlo.after hostOps1 X (Proc.devRef .tc main_cst_1)) ix0 = ⊥ := by
  after_reads_at
  simp [Ideal.ofBits, Ideal.ieee]

/-- The scores of the new tokens. -/
theorem v31_at (X : Valuation τ sig (Elt Ideal)) (b : Fin 144) (s : Fin 6) (h : Fin 8) (e : Fin 5) (j : Fin 6) :
    (show FVec Ideal S144x6x8x5x6 .f32 from StableHlo.after hostOps1 X (Proc.devRef .tc main_v31)) (ix5 b s h e j)
      = (∑ x : Fin 128, (show FVec Ideal S144x6x8x128 .bf16 from X (Proc.devRef .tc main_arg1)) (ix4 b j h x) * (show FVec Ideal S144x6x8x5x128 .bf16 from X (Proc.devRef .tc main_v2)) (ix5 b s h e x))
        * (show FVec Ideal S_ .f32 from X (Proc.devRef .tc main_v1)) ix0 := by
  after_reads_at

/-- The scores of the cached tokens. -/
theorem v27_at (X : Valuation τ sig (Elt Ideal)) (b : Fin 144) (s : Fin 6) (h : Fin 8) (e : Fin 5) (p : Fin 4096) :
    (show FVec Ideal S144x6x8x5x4096 .f32 from StableHlo.after hostOps1 X (Proc.devRef .tc main_v27)) (ix5 b s h e p)
      = (∑ x : Fin 128, (show FVec Ideal S4096x8x128 .bf16 from X (Proc.devRef .tc main_v18_0)) (ix3 p h x) * (show FVec Ideal S144x6x8x5x128 .bf16 from X (Proc.devRef .tc main_v2)) (ix5 b s h e x))
        * ((show FVec Ideal S4096x8 .f32 from X (Proc.devRef .tc main_arg5)) (ix2 p h) * (show FVec Ideal S_ .f32 from X (Proc.devRef .tc main_v1)) ix0) := by
  after_reads_at

/-- The tail's weights' sum. -/
theorem v17_at (X : Valuation τ sig (Elt Ideal)) (b : Fin 144) (s : Fin 6) (h : Fin 8) (e : Fin 5) :
    (show FVec Ideal S144x6x8x5x1 .f32 from StableHlo.after hostOps0 X (Proc.devRef .tc main_v17)) (ix5 b s h e 0)
      = (show FVec Ideal S144x2x128 .f32 from X (Proc.devRef .tc main_arg9)) (ix3 b ⟨(32 * (h : ℕ) + 5 * (s : ℕ) + (e : ℕ)) / 128, by omega⟩ ⟨(32 * (h : ℕ) + 5 * (s : ℕ) + (e : ℕ)) % 128, by omega⟩) := by
  after_reads_at
  have f1 : (h : ℕ) / 4 = (32 * (h : ℕ) + 5 * (s : ℕ) + (e : ℕ)) / 128 := by omega
  have f2 : (h : ℕ) % 4 * 32 + ((s : ℕ) * 5 + (e : ℕ)) = (32 * (h : ℕ) + 5 * (s : ℕ) + (e : ℕ)) % 128 := by omega
  exact congrArg _ (ix3_congr rfl (Fin.ext f1) (Fin.ext f2))

/-- The tail's weighted values. -/
theorem v12_at (X : Valuation τ sig (Elt Ideal)) (b : Fin 144) (s : Fin 6) (h : Fin 8) (e : Fin 5) (d : Fin 128) :
    (show FVec Ideal S144x6x8x5x128 .f32 from StableHlo.after hostOps0 X (Proc.devRef .tc main_v12)) (ix5 b s h e d)
      = (show FVec Ideal S8x9x30x16x128 .f32 from X (Proc.devRef .tc main_arg8)) (ix5 h ⟨(b : ℕ) / 16, by omega⟩ ⟨5 * (s : ℕ) + (e : ℕ), by omega⟩ ⟨(b : ℕ) % 16, by omega⟩ d) := by
  after_reads_at
  have f1 : (s : ℕ) * 5 + (e : ℕ) = 5 * (s : ℕ) + (e : ℕ) := by omega
  exact congrArg _ (ix5_congr rfl rfl (Fin.ext f1) rfl rfl)

/-- The scaled shifts. -/
theorem v9_at (X : Valuation τ sig (Elt Ideal)) (b : Fin 144) (s : Fin 6) (h : Fin 8) (e : Fin 5) :
    (show FVec Ideal S144x6x8x5x1 .f32 from StableHlo.after hostOps0 X (Proc.devRef .tc main_v9)) (ix5 b s h e 0)
      = (show FVec Ideal S8x8x4352 .f32 from X (Proc.devRef .tc main_arg7)) (ix3 h 0 ⟨480 * ((b : ℕ) / 16) + 80 * (s : ℕ) + 16 * (e : ℕ) + (b : ℕ) % 16, by omega⟩)
        * ((Attend.rs : ℝ) : EReal) := by
  after_reads_at
  have f1 : (b : ℕ) / 16 * 480 + (s : ℕ) * 80 + (e : ℕ) * 16 + (b : ℕ) % 16 = 480 * ((b : ℕ) / 16) + 80 * (s : ℕ) + 16 * (e : ℕ) + (b : ℕ) % 16 := by omega
  exact congrArg₂ (· * ·) (congrArg _ (ix3_congr rfl rfl (Fin.ext f1))) Attend.scale_eq

/-- The scale. -/
theorem v1_at (X : Valuation τ sig (Elt Ideal)) :
    (show FVec Ideal S_ .f32 from StableHlo.after hostOps0 X (Proc.devRef .tc main_v1)) ix0 = ((Attend.rs : ℝ) : EReal) := by
  after_reads_at
  exact Attend.scale_eq

/-- The queries by head and group member. -/
theorem v2_at (X : Valuation τ sig (Elt Ideal)) (b : Fin 144) (s : Fin 6) (h : Fin 8) (e : Fin 5) (d : Fin 128) :
    (show FVec Ideal S144x6x8x5x128 .bf16 from StableHlo.after hostOps0 X (Proc.devRef .tc main_v2)) (ix5 b s h e d)
      = (show FVec Ideal S144x6x40x128 .bf16 from X (Proc.devRef .tc main_arg0)) (ix4 b s ⟨5 * (h : ℕ) + (e : ℕ), by omega⟩ d) := by
  after_reads_at
  have f1 : (h : ℕ) * 5 + (e : ℕ) = 5 * (h : ℕ) + (e : ℕ) := by omega
  exact congrArg _ (ix4_congr rfl rfl (Fin.ext f1) rfl)

end Cert.ReferenceIdeal.Hand
-- ==== Proof.RVal2.lean ====
module
public import proofs.«01_k».proof.Proof.RVal

@[expose] public section

set_option maxRecDepth 16384

noncomputable section

open Idealize.ShloMosaic Idealize.ShloMosaic.TcCoe Idealize.SL.Sem
open Idealize.ShloMosaic.Pipeline (Dat)

namespace Cert.ReferenceIdeal.Hand
open Cert.ReferenceIdeal Cert.ReferenceIdeal.Gen

variable (m : (b : Loc nD τ sig) → Buf (Elt Ideal) b)

/-- The masking lines leave `main_v27` as it was. -/
theorem keep2_main_v27 (X : Valuation τ sig (Elt Ideal)) : StableHlo.after hostOps1_1 X (Proc.devRef .tc main_v27) = X (Proc.devRef .tc main_v27) := by
  after_reads_simp

/-- The masking lines leave `main_v9` as it was. -/
theorem keep2_main_v9 (X : Valuation τ sig (Elt Ideal)) : StableHlo.after hostOps1_1 X (Proc.devRef .tc main_v9) = X (Proc.devRef .tc main_v9) := by
  after_reads_simp

/-- The masking lines leave `main_v17` as it was. -/
theorem keep2_main_v17 (X : Valuation τ sig (Elt Ideal)) : StableHlo.after hostOps1_1 X (Proc.devRef .tc main_v17) = X (Proc.devRef .tc main_v17) := by
  after_reads_simp

/-- The masking lines leave `main_v12` as it was. -/
theorem keep2_main_v12 (X : Valuation τ sig (Elt Ideal)) : StableHlo.after hostOps1_1 X (Proc.devRef .tc main_v12) = X (Proc.devRef .tc main_v12) := by
  after_reads_simp

/-- The masking lines leave `main_v18_1` as it was. -/
theorem keep2_main_v18_1 (X : Valuation τ sig (Elt Ideal)) : StableHlo.after hostOps1_1 X (Proc.devRef .tc main_v18_1) = X (Proc.devRef .tc main_v18_1) := by
  after_reads_simp

/-- The masking lines leave `main_arg6` as it was. -/
theorem keep2_main_arg6 (X : Valuation τ sig (Elt Ideal)) : StableHlo.after hostOps1_1 X (Proc.devRef .tc main_arg6) = X (Proc.devRef .tc main_arg6) := by
  after_reads_simp

/-- The masking lines leave `main_arg2` as it was. -/
theorem keep2_main_arg2 (X : Valuation τ sig (Elt Ideal)) : StableHlo.after hostOps1_1 X (Proc.devRef .tc main_arg2) = X (Proc.devRef .tc main_arg2) := by
  after_reads_simp

/-- The scoring lines leave `main_v9` as it was. -/
theorem keep1_main_v9 (X : Valuation τ sig (Elt Ideal)) : StableHlo.after hostOps1 X (Proc.devRef .tc main_v9) = X (Proc.devRef .tc main_v9) := by
  after_reads_simp

/-- The scoring lines leave `main_v17` as it was. -/
theorem keep1_main_v17 (X : Valuation τ sig (Elt Ideal)) : StableHlo.after hostOps1 X (Proc.devRef .tc main_v17) = X (Proc.devRef .tc main_v17) := by
  after_reads_simp

/-- The scoring lines leave `main_v12` as it was. -/
theorem keep1_main_v12 (X : Valuation τ sig (Elt Ideal)) : StableHlo.after hostOps1 X (Proc.devRef .tc main_v12) = X (Proc.devRef .tc main_v12) := by
  after_reads_simp

/-- The scoring lines leave `main_v18_1` as it was. -/
theorem keep1_main_v18_1 (X : Valuation τ sig (Elt Ideal)) : StableHlo.after hostOps1 X (Proc.devRef .tc main_v18_1) = X (Proc.devRef .tc main_v18_1) := by
  after_reads_simp

/-- The scoring lines leave `main_arg6` as it was. -/
theorem keep1_main_arg6 (X : Valuation τ sig (Elt Ideal)) : StableHlo.after hostOps1 X (Proc.devRef .tc main_arg6) = X (Proc.devRef .tc main_arg6) := by
  after_reads_simp

/-- The scoring lines leave `main_arg2` as it was. -/
theorem keep1_main_arg2 (X : Valuation τ sig (Elt Ideal)) : StableHlo.after hostOps1 X (Proc.devRef .tc main_arg2) = X (Proc.devRef .tc main_arg2) := by
  after_reads_simp

/-- The widening call leaves `main_v9` as it was. -/
theorem keep0_main_v9 (c : Dev nD) : R0 m c (Proc.devRef .tc main_v9) = StableHlo.after hostOps0 (fun b => m (c, b)) (Proc.devRef .tc main_v9) := by
  unfold R0
  rw [Pipeline.withArrays_of_ne _ c (V0 m c) _ main_v9 (by exact (by decide : ∀ w, Pipeline.arrRef spec0 w ≠ main_v9))]
  show StableHlo.after (List.flatten [hostOps0]) _ _ = _
  rw [List.flatten_cons, List.flatten_nil, List.append_nil]

/-- The widening call leaves `main_v17` as it was. -/
theorem keep0_main_v17 (c : Dev nD) : R0 m c (Proc.devRef .tc main_v17) = StableHlo.after hostOps0 (fun b => m (c, b)) (Proc.devRef .tc main_v17) := by
  unfold R0
  rw [Pipeline.withArrays_of_ne _ c (V0 m c) _ main_v17 (by exact (by decide : ∀ w, Pipeline.arrRef spec0 w ≠ main_v17))]
  show StableHlo.after (List.flatten [hostOps0]) _ _ = _
  rw [List.flatten_cons, List.flatten_nil, List.append_nil]

/-- The widening call leaves `main_v12` as it was. -/
theorem keep0_main_v12 (c : Dev nD) : R0 m c (Proc.devRef .tc main_v12) = StableHlo.after hostOps0 (fun b => m (c, b)) (Proc.devRef .tc main_v12) := by
  unfold R0
  rw [Pipeline.withArrays_of_ne _ c (V0 m c) _ main_v12 (by exact (by decide : ∀ w, Pipeline.arrRef spec0 w ≠ main_v12))]
  show StableHlo.after (List.flatten [hostOps0]) _ _ = _
  rw [List.flatten_cons, List.flatten_nil, List.append_nil]

/-- The widening call leaves `main_arg6` as it was. -/
theorem keep0_main_arg6 (c : Dev nD) : R0 m c (Proc.devRef .tc main_arg6) = StableHlo.after hostOps0 (fun b => m (c, b)) (Proc.devRef .tc main_arg6) := by
  unfold R0
  rw [Pipeline.withArrays_of_ne _ c (V0 m c) _ main_arg6 (by exact (by decide : ∀ w, Pipeline.arrRef spec0 w ≠ main_arg6))]
  show StableHlo.after (List.flatten [hostOps0]) _ _ = _
  rw [List.flatten_cons, List.flatten_nil, List.append_nil]

/-- The widening call leaves `main_arg2` as it was. -/
theorem keep0_main_arg2 (c : Dev nD) : R0 m c (Proc.devRef .tc main_arg2) = StableHlo.after hostOps0 (fun b => m (c, b)) (Proc.devRef .tc main_arg2) := by
  unfold R0
  rw [Pipeline.withArrays_of_ne _ c (V0 m c) _ main_arg2 (by exact (by decide : ∀ w, Pipeline.arrRef spec0 w ≠ main_arg2))]
  show StableHlo.after (List.flatten [hostOps0]) _ _ = _
  rw [List.flatten_cons, List.flatten_nil, List.append_nil]

/-- The widening call leaves `main_v2` as it was. -/
theorem keep0_main_v2 (c : Dev nD) : R0 m c (Proc.devRef .tc main_v2) = StableHlo.after hostOps0 (fun b => m (c, b)) (Proc.devRef .tc main_v2) := by
  unfold R0
  rw [Pipeline.withArrays_of_ne _ c (V0 m c) _ main_v2 (by exact (by decide : ∀ w, Pipeline.arrRef spec0 w ≠ main_v2))]
  show StableHlo.after (List.flatten [hostOps0]) _ _ = _
  rw [List.flatten_cons, List.flatten_nil, List.append_nil]

/-- The widening call leaves `main_v1` as it was. -/
theorem keep0_main_v1 (c : Dev nD) : R0 m c (Proc.devRef .tc main_v1) = StableHlo.after hostOps0 (fun b => m (c, b)) (Proc.devRef .tc main_v1) := by
  unfold R0
  rw [Pipeline.withArrays_of_ne _ c (V0 m c) _ main_v1 (by exact (by decide : ∀ w, Pipeline.arrRef spec0 w ≠ main_v1))]
  show StableHlo.after (List.flatten [hostOps0]) _ _ = _
  rw [List.flatten_cons, List.flatten_nil, List.append_nil]

/-- The widening call leaves `main_arg1` as it was. -/
theorem keep0_main_arg1 (c : Dev nD) : R0 m c (Proc.devRef .tc main_arg1) = StableHlo.after hostOps0 (fun b => m (c, b)) (Proc.devRef .tc main_arg1) := by
  unfold R0
  rw [Pipeline.withArrays_of_ne _ c (V0 m c) _ main_arg1 (by exact (by decide : ∀ w, Pipeline.arrRef spec0 w ≠ main_arg1))]
  show StableHlo.after (List.flatten [hostOps0]) _ _ = _
  rw [List.flatten_cons, List.flatten_nil, List.append_nil]

/-- The widening call leaves `main_arg5` as it was. -/
theorem keep0_main_arg5 (c : Dev nD) : R0 m c (Proc.devRef .tc main_arg5) = StableHlo.after hostOps0 (fun b => m (c, b)) (Proc.devRef .tc main_arg5) := by
  unfold R0
  rw [Pipeline.withArrays_of_ne _ c (V0 m c) _ main_arg5 (by exact (by decide : ∀ w, Pipeline.arrRef spec0 w ≠ main_arg5))]
  show StableHlo.after (List.flatten [hostOps0]) _ _ = _
  rw [List.flatten_cons, List.flatten_nil, List.append_nil]

/-- The widened keys are the cached keys. -/
theorem key_eq (c : Dev nD) : (show FVec Ideal S4096x8x128 .bf16 from R0 m c (Proc.devRef .tc main_v18_0))
    = (show FVec Ideal S4096x8x128 .fp8e4m3 from m ((c : Thread nD τ).loc main_arg3)) :=
  (Pipeline.withArrays_arr spec0 launch0.win.arr_inj c (V0 m c) (fun w => (dats m 0 c).arrAt w cfg0.N) 2).trans ((arr2 m c).trans (V_main_arg3 m c))

/-- The widened values are the cached values. -/
theorem val_eq (c : Dev nD) : (show FVec Ideal S4096x8x128 .bf16 from R0 m c (Proc.devRef .tc main_v18_1))
    = (show FVec Ideal S4096x8x128 .fp8e4m3 from m ((c : Thread nD τ).loc main_arg4)) :=
  (Pipeline.withArrays_arr spec0 launch0.win.arr_inj c (V0 m c) (fun w => (dats m 0 c).arrAt w cfg0.N) 3).trans ((arr3 m c).trans (V_main_arg4 m c))

end Cert.ReferenceIdeal.Hand
-- ==== Proof.RVal3.lean ====
module
public import proofs.«01_k».proof.Proof.RVal2

@[expose] public section

set_option maxRecDepth 16384

noncomputable section

open Idealize.ShloMosaic Idealize.ShloMosaic.TcCoe Idealize.SL.Sem
open Idealize.ShloMosaic.Pipeline (Dat)

namespace Cert.ReferenceIdeal.Hand
open Cert.ReferenceIdeal Cert.ReferenceIdeal.Gen

variable (m : (b : Loc nD τ sig) → Buf (Elt Ideal) b)

/-- An argument array before the call, as the launch gave it. -/
theorem argA1 (c : Dev nD) : R0 m c (Proc.devRef .tc main_arg1) = m ((c : Thread nD τ).loc main_arg1) :=
  (keep0_main_arg1 m c).trans (by after_reads_simp)
/-- An argument array before the call, as the launch gave it. -/
theorem argA2 (c : Dev nD) : R0 m c (Proc.devRef .tc main_arg2) = m ((c : Thread nD τ).loc main_arg2) :=
  (keep0_main_arg2 m c).trans (by after_reads_simp)
/-- An argument array before the call, as the launch gave it. -/
theorem argA5 (c : Dev nD) : R0 m c (Proc.devRef .tc main_arg5) = m ((c : Thread nD τ).loc main_arg5) :=
  (keep0_main_arg5 m c).trans (by after_reads_simp)
/-- An argument array before the call, as the launch gave it. -/
theorem argA6 (c : Dev nD) : R0 m c (Proc.devRef .tc main_arg6) = m ((c : Thread nD τ).loc main_arg6) :=
  (keep0_main_arg6 m c).trans (by after_reads_simp)

/-- The queries as the scoring lines read them. -/
theorem q_at (c : Dev nD) (b : Fin 144) (s : Fin 6) (h : Fin 8) (e : Fin 5) (d : Fin 128) :
    (show FVec Ideal S144x6x8x5x128 .bf16 from R0 m c (Proc.devRef .tc main_v2)) (ix5 b s h e d)
      = (show FVec Ideal S144x6x40x128 .bf16 from m ((c : Thread nD τ).loc main_arg0)) (ix4 b s ⟨5 * (h : ℕ) + (e : ℕ), by omega⟩ d) :=
  (congrFun (keep0_main_v2 m c) _).trans (v2_at _ b s h e d)

/-- The scale as the scoring lines read it. -/
theorem sc_at (c : Dev nD) : (show FVec Ideal S_ .f32 from R0 m c (Proc.devRef .tc main_v1)) ix0 = ((Attend.rs : ℝ) : EReal) :=
  (congrFun (keep0_main_v1 m c) _).trans (v1_at _)

/-- The cached tokens' scores. -/
theorem sp_at (c : Dev nD) (b : Fin 144) (s : Fin 6) (h : Fin 8) (e : Fin 5) (p : Fin 4096) :
    (show FVec Ideal S144x6x8x5x4096 .f32 from R2 m c (Proc.devRef .tc main_v27)) (ix5 b s h e p)
      = (∑ x : Fin 128, (show FVec Ideal S4096x8x128 .fp8e4m3 from m ((c : Thread nD τ).loc main_arg3)) (ix3 p h x)
            * (show FVec Ideal S144x6x40x128 .bf16 from m ((c : Thread nD τ).loc main_arg0)) (ix4 b s ⟨5 * (h : ℕ) + (e : ℕ), by omega⟩ x))
        * ((show FVec Ideal S4096x8 .f32 from m ((c : Thread nD τ).loc main_arg5)) (ix2 p h) * ((Attend.rs : ℝ) : EReal)) := by
  refine (congrFun (keep2_main_v27 (R1 m c)) _).trans ((v27_at (R0 m c) b s h e p).trans ?_)
  refine congrArg₂ (· * ·) (Finset.sum_congr rfl fun x _ => ?_) (congrArg₂ (· * ·) (congrFun (argA5 m c) _) (sc_at m c))
  exact congrArg₂ (· * ·) (congrFun (key_eq m c) _) (q_at m c b s h e x)

/-- The new tokens' scores, the hidden ones minus infinity. -/
theorem sn_at (c : Dev nD) (b : Fin 144) (s : Fin 6) (h : Fin 8) (e : Fin 5) (j : Fin 6) :
    (show FVec Ideal S144x6x8x5x6 .f32 from R2 m c (Proc.devRef .tc main_v40)) (ix5 b s h e j)
      = if j ≤ s then (∑ x : Fin 128, (show FVec Ideal S144x6x8x128 .bf16 from m ((c : Thread nD τ).loc main_arg1)) (ix4 b j h x)
            * (show FVec Ideal S144x6x40x128 .bf16 from m ((c : Thread nD τ).loc main_arg0)) (ix4 b s ⟨5 * (h : ℕ) + (e : ℕ), by omega⟩ x)) * ((Attend.rs : ℝ) : EReal)
        else ⊥ := by
  refine (v40_at (R1 m c) b s h e j).trans ?_
  have h1 : (show IVec S1x6x1x1x6 1 from R1 m c (Proc.devRef .tc main_v39)) (ix5 0 s 0 0 j) = if j ≤ s then 1#1 else 0#1 := v39_at (R0 m c) s j
  have h2 : (show FVec Ideal S_ .f32 from R1 m c (Proc.devRef .tc main_cst_1)) ix0 = ⊥ := cst1_at (R0 m c)
  have h3 : (show FVec Ideal S144x6x8x5x6 .f32 from R1 m c (Proc.devRef .tc main_v31)) (ix5 b s h e j)
      = (∑ x : Fin 128, (show FVec Ideal S144x6x8x128 .bf16 from m ((c : Thread nD τ).loc main_arg1)) (ix4 b j h x)
            * (show FVec Ideal S144x6x40x128 .bf16 from m ((c : Thread nD τ).loc main_arg0)) (ix4 b s ⟨5 * (h : ℕ) + (e : ℕ), by omega⟩ x)) * ((Attend.rs : ℝ) : EReal) := by
    refine (v31_at (R0 m c) b s h e j).trans ?_
    refine congrArg₂ (· * ·) (Finset.sum_congr rfl fun x _ => ?_) (sc_at m c)
    exact congrArg₂ (· * ·) (congrFun (argA1 m c) _) (q_at m c b s h e x)
  rw [h1, h2, h3]
  split <;> rfl

/-- The reference's result, element by element. -/
theorem result_at (c : Dev nD) (b : Fin 144) (s : Fin 6) (h : Fin 8) (e : Fin 5) (d : Fin 128) :
    (show FVec Ideal S144x6x5120 .bf16 from R3 m c (Proc.devRef .tc main_v73)) (ix3 b s ⟨640 * (h : ℕ) + 128 * (e : ℕ) + (d : ℕ), by omega⟩)
      = outOf (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) b s h e d := by
  refine (v73_at (R2 m c) b s h e d).trans ?_
  unfold lastOf outOf
  have a1 := fun p => sp_at m c b s h e p
  have a2 := fun j => sn_at m c b s h e j
  have a3 := (congrFun (keep2_main_v9 (R1 m c)) (ix5 b s h e 0)).trans ((congrFun (keep1_main_v9 (R0 m c)) _).trans ((congrFun (keep0_main_v9 m c) _).trans (v9_at _ b s h e)))
  have a4 := (congrFun (keep2_main_v17 (R1 m c)) (ix5 b s h e 0)).trans ((congrFun (keep1_main_v17 (R0 m c)) _).trans ((congrFun (keep0_main_v17 m c) _).trans (v17_at _ b s h e)))
  have a5 := (congrFun (keep2_main_v12 (R1 m c)) (ix5 b s h e d)).trans ((congrFun (keep1_main_v12 (R0 m c)) _).trans ((congrFun (keep0_main_v12 m c) _).trans (v12_at _ b s h e d)))
  have a6 := fun p : Fin 4096 => (congrFun (keep2_main_v18_1 (R1 m c)) (ix3 p h d)).trans ((congrFun (keep1_main_v18_1 (R0 m c)) _).trans (congrFun (val_eq m c) _))
  have a7 := fun p : Fin 4096 => (congrFun (keep2_main_arg6 (R1 m c)) (ix2 p h)).trans ((congrFun (keep1_main_arg6 (R0 m c)) _).trans (congrFun (argA6 m c) _))
  have a8 := fun j : Fin 6 => (congrFun (keep2_main_arg2 (R1 m c)) (ix4 b j h d)).trans ((congrFun (keep1_main_arg2 (R0 m c)) _).trans (congrFun (argA2 m c) _))
  exact Attend.attend_congr a1 a2 a3 a4 a5 a6 a7 a8

end Cert.ReferenceIdeal.Hand
-- ==== Proof.Pre.lean ====
module
public import proofs.«01_k».proof.Proof.Gen.Pre_sane
public import Idealize.ShloMosaic.Lib.StableHlo.ReadAt
public import Idealize.ShloMosaic.Lib.ReduceAll
public import Idealize.ShloMosaic.PureOps.Ideal
public import Idealize.ShloMosaic.PureOps.Ideal.Laws

@[expose] public section

set_option maxRecDepth 16384

noncomputable section

open Idealize.ShloMosaic Idealize.ShloMosaic.TcCoe Idealize.SL.Sem

namespace Cert.Pre_sane.Hand
open Cert.Pre_sane Cert.Pre_sane.Gen

/-- The word of zero denotes zero. -/
theorem ofBits_zero : Ideal.ofBits .f32 0x00000000#32 = 0 := by simp [Ideal.ofBits, Ideal.ieee]
/-- The word of infinity denotes infinity. -/
theorem ofBits_top : Ideal.ofBits .f32 0x7F800000#32 = ⊤ := by simp [Ideal.ofBits, Ideal.ieee]
/-- The word of minus infinity denotes minus infinity. -/
theorem ofBits_bot : Ideal.ofBits .f32 0xFF800000#32 = ⊥ := by simp [Ideal.ofBits, Ideal.ieee]

/-- A comparison that is one holds. -/
theorem cmp_oge {x y : EReal} (h : Ideal.cmp .oge x y = 1#1) : y ≤ x := by
  by_contra hn
  simp [Ideal.cmp, hn] at h
/-- A comparison that is one holds. -/
theorem cmp_olt {x y : EReal} (h : Ideal.cmp .olt x y = 1#1) : x < y := by
  by_contra hn
  simp [Ideal.cmp, hn] at h
/-- A comparison that is one holds. -/
theorem cmp_ogt {x y : EReal} (h : Ideal.cmp .ogt x y = 1#1) : y < x := by
  by_contra hn
  simp [Ideal.cmp, hn] at h

variable (a0 : FVec Ideal S144x6x40x128 .bf16) (a1 a2 : FVec Ideal S144x6x8x128 .bf16) (a3 a4 : FVec Ideal S4096x8x128 .fp8e4m3) (a5 a6 : FVec Ideal S4096x8 .f32)
    (a7 : FVec Ideal S8x8x4352 .f32) (a8 : FVec Ideal S8x9x30x16x128 .f32) (a9 : FVec Ideal S144x2x128 .f32)

/-- The precondition gives that the key scales are neither negative nor infinite. -/
theorem scales (hpre : fn (F := Ideal) a0 a1 a2 a3 a4 a5 a6 a7 a8 a9 = fun _ => 1#1) (p : Fin 4096) (h : Fin 8) : 0 ≤ a5 (ix2 p h) ∧ a5 (ix2 p h) < ⊤ := by
  have e := congrFun hpre ix0
  unfold fn fn_part1 at e
  have e1 := (IntOp.andi_eq_one.1 (IntOp.andi_eq_one.1 e).1).1
  have k := Host.reduce_andi_all _ _ _ _ ix0 e1 (ix2 p h)
  have k1 : IntOp.andi (Ideal.cmp .oge (a5 (ix2 p h)) (Ideal.ofBits .f32 0x00000000#32)) (Ideal.cmp .olt (a5 (ix2 p h)) (Ideal.ofBits .f32 0x7F800000#32)) = 1#1 := by
    refine Eq.trans ?_ k
    pointwise
    rfl
  obtain ⟨k2, k3⟩ := IntOp.andi_eq_one.1 k1
  rw [ofBits_zero] at k2
  rw [ofBits_top] at k3
  exact ⟨cmp_oge k2, cmp_olt k3⟩

/-- The precondition gives that the shifts are finite. -/
theorem shifts (hpre : fn (F := Ideal) a0 a1 a2 a3 a4 a5 a6 a7 a8 a9 = fun _ => 1#1) (h : Fin 8) (r : Fin 4320) :
    ∃ μ : ℝ, a7 (ix3 h 0 ⟨(r : ℕ), by omega⟩) = ((μ : ℝ) : EReal) := by
  have e := congrFun hpre ix0
  unfold fn fn_part1 at e
  have e1 := (IntOp.andi_eq_one.1 (IntOp.andi_eq_one.1 e).1).2
  have k := Host.reduce_andi_all _ _ _ _ ix0 e1 (ix2 h r)
  have k1 : IntOp.andi (Ideal.cmp .ogt (a7 (ix3 h 0 ⟨(r : ℕ), by omega⟩)) (Ideal.ofBits .f32 0xFF800000#32)) (Ideal.cmp .olt (a7 (ix3 h 0 ⟨(r : ℕ), by omega⟩)) (Ideal.ofBits .f32 0x7F800000#32)) = 1#1 := by
    refine Eq.trans ?_ k
    pointwise
    rfl
  obtain ⟨k2, k3⟩ := IntOp.andi_eq_one.1 k1
  rw [ofBits_bot] at k2
  rw [ofBits_top] at k3
  exact ⟨_, (EReal.coe_toReal (cmp_olt k3).ne (cmp_ogt k2).ne').symm⟩

/-- The precondition gives that the tail's sums of weights are positive. -/
theorem tails (hpre : fn (F := Ideal) a0 a1 a2 a3 a4 a5 a6 a7 a8 a9 = fun _ => 1#1) (b : Fin 144) (h : Fin 8) (k : Fin 30) :
    0 < a9 (ix3 b ⟨(h : ℕ) / 4, by omega⟩ ⟨(h : ℕ) % 4 * 32 + (k : ℕ), by omega⟩) := by
  have e := congrFun hpre ix0
  unfold fn fn_part1 at e
  have e1 := (IntOp.andi_eq_one.1 e).2
  have kk := Host.reduce_andi_all _ _ _ _ ix0 e1 (ix3 b h k)
  have k1 : Ideal.cmp .ogt (a9 (ix3 b ⟨(h : ℕ) / 4, by omega⟩ ⟨(h : ℕ) % 4 * 32 + (k : ℕ), by omega⟩)) (Ideal.ofBits .f32 0x00000000#32) = 1#1 := by
    refine Eq.trans ?_ kk
    pointwise
    rfl
  rw [ofBits_zero] at k1
  exact cmp_ogt k1

end Cert.Pre_sane.Hand
-- ==== Proof.Final.lean ====
module
public import proofs.«01_k».proof.Defs
public import proofs.«01_k».proof.Proof.KVal
public import proofs.«01_k».proof.Proof.KRun
public import proofs.«01_k».proof.Proof.RVal3
public import proofs.«01_k».proof.Proof.Pre

@[expose] public section

set_option maxRecDepth 16384

noncomputable section

open Idealize.ShloMosaic Idealize.ShloMosaic.TcCoe Idealize.SL.Sem

namespace Cert.KernelIdeal.Hand
open Cert.KernelIdeal Cert.KernelIdeal.Gen

variable (m : (b : Loc nD τ sig) → Buf (Elt Ideal) b) (ρ : Dev nD → PrngReg)

/-- The precondition's tail sums at the entry that a row reads. -/
theorem tail_pos (a9 : FVec Ideal S144x2x128 .f32) (b : Fin 144) (s : Fin 6) (h : Fin 8) (e : Fin 5)
    (H : ∀ k : Fin 30, 0 < a9 (ix3 b ⟨(h : ℕ) / 4, by omega⟩ ⟨(h : ℕ) % 4 * 32 + (k : ℕ), by omega⟩)) :
    0 < a9 (ix3 b ⟨(32 * (h : ℕ) + 5 * (s : ℕ) + (e : ℕ)) / 128, by omega⟩ ⟨(32 * (h : ℕ) + 5 * (s : ℕ) + (e : ℕ)) % 128, by omega⟩) :=
  lt_of_lt_of_eq (H ⟨5 * (s : ℕ) + (e : ℕ), by omega⟩) (congrArg a9 (ix3_congr rfl (Fin.ext (by show (h : ℕ) / 4 = (32 * (h : ℕ) + 5 * (s : ℕ) + (e : ℕ)) / 128; omega))
    (Fin.ext (by show (h : ℕ) % 4 * 32 + (5 * (s : ℕ) + (e : ℕ)) = (32 * (h : ℕ) + 5 * (s : ℕ) + (e : ℕ)) % 128; omega))))

/-- Under the precondition the kernel's result element is the same function of the arguments as the reference's. -/
theorem kernel_at (c : Dev nD)
    (hpre : Cert.Pre_sane.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1)
    (b : Fin 144) (s : Fin 6) (h : Fin 8) (e : Fin 5) (d : Fin 128) :
    (show FVec Ideal S144x6x5120 .bf16 from W14 m ρ c (Proc.devRef .tc main_v24)) (ix3 b s (lane h e d))
      = Cert.ReferenceIdeal.Hand.outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b s h e d := by
  obtain ⟨μ, hμ⟩ := Cert.Pre_sane.Hand.shifts _ _ _ _ _ _ _ _ _ _ hpre h ⟨480 * ((b : ℕ) / 16) + 80 * (s : ℕ) + 16 * (e : ℕ) + (b : ℕ) % 16, by omega⟩
  have hks := fun p => Cert.Pre_sane.Hand.scales _ _ _ _ _ _ _ _ _ _ hpre p h
  have hl := tail_pos _ b s h e fun k => Cert.Pre_sane.Hand.tails _ _ _ _ _ _ _ _ _ _ hpre b h k
  refine (v24_at m ρ c b s h e d).trans ((congrFun (v20_eq m ρ c) _).trans ((arrG_at _ _ _ _ _ _ _ _ b s h e d _ μ
    (fun p x => (show FVec Ideal S4096x8x128 .fp8e4m3 from m ((c : Thread nD τ).loc main_arg3)) (ix3 p h x)) (fun p => (show FVec Ideal S4096x8 .f32 from m ((c : Thread nD τ).loc main_arg5)) (ix2 p h))
    (fun p => (show FVec Ideal S4096x8x128 .fp8e4m3 from m ((c : Thread nD τ).loc main_arg4)) (ix3 p h d)) (fun p => (show FVec Ideal S4096x8 .f32 from m ((c : Thread nD τ).loc main_arg6)) (ix2 p h))
    _ _ _ _
    (fun x => v3_at m ρ c h x b s e) ((congrFun (W12_args m ρ c main_arg7 (by decide +kernel)) _).trans hμ)
    (fun p x => congrFun (v12_0_eq m ρ c) (ix3 h p x)) (fun p => congrFun (v12_1_eq m ρ c) (ix3 h d p))
    (fun j x => v7_at m ρ c h x b j) (fun j => v11_at m ρ c h d b j) (v14_at m ρ c h d b s e) (v19_at m ρ c h b s e) hks hl).trans ?_))
  unfold Cert.ReferenceIdeal.Hand.outOf
  exact congrArg (fun t => Attend.attend _ _ (t * ((Attend.rs : ℝ) : EReal)) _ _ _ _ _) hμ.symm

end Cert.KernelIdeal.Hand

namespace Cert.Proof.Claims

/-- The two runs agree on every element of the result. -/
theorem results_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (show FVec Ideal Cert.KernelIdeal.S144x6x5120 .bf16 from Cert.ReferenceIdeal.Hand.R3 m' c (Proc.devRef .tc Cert.ReferenceIdeal.main_v73))
      = (show FVec Ideal Cert.KernelIdeal.S144x6x5120 .bf16 from Cert.KernelIdeal.Gen.W14 m g c (Proc.devRef .tc Cert.KernelIdeal.main_v24)) := by
  funext i
  idx_vars i
  generalize i0 = b
  generalize i1 = s
  generalize i2 = y
  have hy : (y : ℕ) < 5120 := y.isLt
  have ey : y = ⟨640 * ((y : ℕ) / 640) + 128 * ((y : ℕ) / 128 % 5) + (y : ℕ) % 128, by omega⟩ := Fin.ext (by show (y : ℕ) = 640 * ((y : ℕ) / 640) + 128 * ((y : ℕ) / 128 % 5) + (y : ℕ) % 128; omega)
  have hr := Cert.ReferenceIdeal.Hand.result_at m' c b s ⟨(y : ℕ) / 640, by omega⟩ ⟨(y : ℕ) / 128 % 5, by omega⟩ ⟨(y : ℕ) % 128, by omega⟩
  have hk := Cert.KernelIdeal.Hand.kernel_at m g c hpre b s ⟨(y : ℕ) / 640, by omega⟩ ⟨(y : ℕ) / 128 % 5, by omega⟩ ⟨(y : ℕ) % 128, by omega⟩
  rw [h0, h1, h2, h3, h4, h5, h6, h7, h8, h9] at hr
  refine (congrArg _ (Cert.KernelIdeal.Hand.ix3_congr rfl rfl ey)).trans (hr.trans (hk.symm.trans (congrArg _ (Cert.KernelIdeal.Hand.ix3_congr rfl rfl ey.symm))))

/-- The kernel at exact arithmetic computes the reference, wherever the precondition holds. -/
theorem algebraic : Cert.algebraic_KernelIdeal_ReferenceIdeal_pre_sane := by
  intro m g m' g' hpre hagree
  refine ⟨_, Cert.KernelIdeal.Hand.run (F := Ideal) m g, ?_⟩
  refine (θ_run Cert.ReferenceIdeal.defs _ _).mono (fun _ h c => ⟨(h c).1.trans ?_, (h c).2⟩) (Cert.ReferenceIdeal.Hand.run m' g')
  obtain ⟨h0, h1, h2, h3, h4, h5, h6, h7, h8, h9⟩ := hagree c
  exact results_eq m g m' c (hpre c) h0 h1 h2 h3 h4 h5 h6 h7 h8 h9

/-- The kernel's named constant is the printed one at exact arithmetic. -/
theorem preserves : Cert.preserves_Kernel_KernelIdeal :=
  IdealRules.named_const.statement Cert.KernelIdeal.κ "c" .f32 0x3E0293EE#32 (((Real.sqrt 128)⁻¹ * (Real.log 2)⁻¹ : ℝ) : EReal) rfl

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sane
public import proofs.«01_k».proof.Proof.Final
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_sane.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  Cert.Proof.Claims.preserves,
  Cert.Proof.Claims.algebraic⟩

end Cert.Proof

end
